-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within [hKernelIdeal : Cert.KernelIdeal.Facts] [hClippedIdeal : Cert.ClippedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within (hKernelIdeal := hKernelIdeal) (hClippedIdeal := hClippedIdeal) (hOn_within := hOn_within)
-- ==== On_within.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S512x4096 : Shape := ⟨2, ![512, 4096]⟩
abbrev S4096x256 : Shape := ⟨2, ![4096, 256]⟩
abbrev S256x4096 : Shape := ⟨2, ![256, 4096]⟩
abbrev S88x4096 : Shape := ⟨2, ![88, 4096]⟩
abbrev S2x256x4096 : Shape := ⟨3, ![2, 256, 4096]⟩
abbrev S3 : Shape := ⟨1, ![3]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S512x256 : Shape := ⟨2, ![512, 256]⟩
abbrev S128x4096 : Shape := ⟨2, ![128, 4096]⟩
abbrev S256x256 : Shape := ⟨2, ![256, 256]⟩
abbrev S168x4096 : Shape := ⟨2, ![168, 4096]⟩
abbrev S88x256 : Shape := ⟨2, ![88, 256]⟩
abbrev S168x256 : Shape := ⟨2, ![168, 256]⟩

abbrev nBuf : Space → Nat
  | .hbm => 3
  | .vmem => 12
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S512x4096, .f32⟩
  | .local _ .vmem, ⟨4, _⟩ => ⟨S256x4096, .f32⟩
  | .local _ .vmem, ⟨5, _⟩ => ⟨S256x4096, .f32⟩
  | .local _ .vmem, ⟨6, _⟩ => ⟨S88x4096, .f32⟩
  | .local _ .vmem, ⟨7, _⟩ => ⟨S88x4096, .f32⟩
  | .local _ .vmem, ⟨8, _⟩ => ⟨S2x256x4096, .f32⟩
  | .local _ .vmem, ⟨9, _⟩ => ⟨S2x256x4096, .f32⟩
  | .local _ .vmem, ⟨10, _⟩ => ⟨S256x4096, .f32⟩
  | .local _ .vmem, ⟨11, _⟩ => ⟨S256x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 5 37 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_26 : BitVec 32 := 1#32
  let v50 : BitVec 32 := Scalar.muli v37 c1_i32_26
  let v51 : BitVec 32 := Scalar.addi c0_i32_27 v50
  v51.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_29 : BitVec 32 := 1#32
  let v52 : BitVec 32 := Scalar.muli v25 c1_i32_29
  let v53 : BitVec 32 := Scalar.addi c0_i32_30 v52
  v53.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_32 : BitVec 32 := 1#32
  let v54 : BitVec 32 := Scalar.muli v48 c1_i32_32
  let v55 : BitVec 32 := Scalar.addi c0_i32_33 v54
  v55.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_34 : BitVec 32 := 1#32
  let v56 : BitVec 32 := Scalar.muli v48 c1_i32_34
  let v57 : BitVec 32 := Scalar.addi c0_i32_35 v56
  v57.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_39 : BitVec 32 := 1#32
  let v58 : BitVec 32 := Scalar.muli v25 c1_i32_39
  let v59 : BitVec 32 := Scalar.addi c0_i32_40 v58
  v59.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_48 : BitVec 32 := 1#32
  let v67 : BitVec 32 := Scalar.muli v37 c1_i32_48
  let v68 : BitVec 32 := Scalar.addi c0_i32_49 v67
  v68.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v76 : BitVec 32 := Scalar.muli v2 c512_i32
  let v84 : Index := Scalar.indexCast v76
  let c0_56 : Index := 0#32
  ![v84.toNat, 0]
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_79 : BitVec 32 := 1#32
  let v100 : BitVec 32 := Scalar.muli v25 c1_i32_79
  let v101 : BitVec 32 := Scalar.addi c0_i32_80 v100
  v101.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_92 : BitVec 32 := 1#32
  let v112 : BitVec 32 := Scalar.muli v25 c1_i32_92
  let v113 : BitVec 32 := Scalar.addi c0_i32_93 v112
  v113.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_105 : BitVec 32 := 1#32
  let v124 : BitVec 32 := Scalar.muli v37 c1_i32_105
  let v125 : BitVec 32 := Scalar.addi c0_i32_106 v124
  v125.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_119 : BitVec 32 := 1#32
  let v136 : BitVec 32 := Scalar.muli v37 c1_i32_119
  let v137 : BitVec 32 := Scalar.addi c0_i32_120 v136
  v137.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_133 : BitVec 32 := 1#32
  let v150 : BitVec 32 := Scalar.muli v25 c1_i32_133
  let v151 : BitVec 32 := Scalar.addi c0_i32_134 v150
  v151.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_139 : BitVec 32 := 1#32
  let v157 : BitVec 32 := Scalar.muli v37 c1_i32_139
  let v158 : BitVec 32 := Scalar.addi c0_i32_140 v157
  v158.toNat
def k0_dev13 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_159 : BitVec 32 := 1#32
  let v174 : BitVec 32 := Scalar.muli v48 c1_i32_159
  let v175 : BitVec 32 := Scalar.addi c0_i32_160 v174
  v175.toNat
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_182 : BitVec 32 := 1#32
  let v190 : BitVec 32 := Scalar.muli v48 c1_i32_182
  let v191 : BitVec 32 := Scalar.addi c0_i32_183 v190
  v191.toNat
def k0_dev15 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_205 : BitVec 32 := 1#32
  let v206 : BitVec 32 := Scalar.muli v48 c1_i32_205
  let v207 : BitVec 32 := Scalar.addi c0_i32_206 v206
  v207.toNat
def k0_dev16 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_228 : BitVec 32 := 1#32
  let v222 : BitVec 32 := Scalar.muli v48 c1_i32_228
  let v223 : BitVec 32 := Scalar.addi c0_i32_229 v222
  v223.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c512_i32_236 : BitVec 32 := 512#32
  let v228 : BitVec 32 := Scalar.muli v48 c512_i32_236
  let v235 : Index := Scalar.indexCast v228
  let c0_242 : Index := 0#32
  ![v235.toNat, 0]
def k0_off3 (d0 : Dev nD) (c1_i32_243 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v237 : BitVec 32 := Scalar.subi v12 c1_i32_243
  let c4_i32_244 : BitVec 32 := 4#32
  let c0_i32_245 : BitVec 32 := 0#32
  let v238 : BitVec 1 := Scalar.cmpi .eq c4_i32_244 c0_i32_245
  let c1_i32_246 : BitVec 32 := 1#32
  let v239 : BitVec 32 := Scalar.select v238 c1_i32_246 c4_i32_244
  let v240 : BitVec 32 := Scalar.remsi v237 v239
  let c0_i32_248 : BitVec 32 := 0#32
  let v242 : BitVec 1 := Scalar.cmpi .slt v240 c0_i32_248
  let c0_i32_249 : BitVec 32 := 0#32
  let v243 : BitVec 1 := Scalar.cmpi .slt v239 c0_i32_249
  let v244 : BitVec 1 := Scalar.xori v242 v243
  let c0_i32_247 : BitVec 32 := 0#32
  let v241 : BitVec 1 := Scalar.cmpi .ne v240 c0_i32_247
  let v245 : BitVec 1 := Scalar.andi v244 v241
  let v246 : BitVec 32 := Scalar.addi v240 v239
  let v247 : BitVec 32 := Scalar.select v245 v246 v240
  let v248 : BitVec 32 := Scalar.addi v13 v247
  let c512_i32_250 : BitVec 32 := 512#32
  let v249 : BitVec 32 := Scalar.muli v248 c512_i32_250
  let v257 : Index := Scalar.indexCast v249
  let c0_257 : Index := 0#32
  ![v257.toNat, 0]
def k0_off4 (d0 : Dev nD) (c1_i32_258 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v259 : BitVec 32 := Scalar.addi v12 c1_i32_258
  let c4_i32_259 : BitVec 32 := 4#32
  let c0_i32_260 : BitVec 32 := 0#32
  let v260 : BitVec 1 := Scalar.cmpi .eq c4_i32_259 c0_i32_260
  let c1_i32_261 : BitVec 32 := 1#32
  let v261 : BitVec 32 := Scalar.select v260 c1_i32_261 c4_i32_259
  let v262 : BitVec 32 := Scalar.remsi v259 v261
  let c0_i32_263 : BitVec 32 := 0#32
  let v264 : BitVec 1 := Scalar.cmpi .slt v262 c0_i32_263
  let c0_i32_264 : BitVec 32 := 0#32
  let v265 : BitVec 1 := Scalar.cmpi .slt v261 c0_i32_264
  let v266 : BitVec 1 := Scalar.xori v264 v265
  let c0_i32_262 : BitVec 32 := 0#32
  let v263 : BitVec 1 := Scalar.cmpi .ne v262 c0_i32_262
  let v267 : BitVec 1 := Scalar.andi v266 v263
  let v268 : BitVec 32 := Scalar.addi v262 v261
  let v269 : BitVec 32 := Scalar.select v267 v268 v262
  let v270 : BitVec 32 := Scalar.addi v13 v269
  let c512_i32_265 : BitVec 32 := 512#32
  let v271 : BitVec 32 := Scalar.muli v270 c512_i32_265
  let c256_i32_266 : BitVec 32 := 256#32
  let v272 : BitVec 32 := Scalar.addi v271 c256_i32_266
  let v280 : Index := Scalar.indexCast v272
  let c0_273 : Index := 0#32
  ![v280.toNat, 0]
def k0_dev17 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_343 : BitVec 32 := 1#32
  let v324 : BitVec 32 := Scalar.muli v37 c1_i32_343
  let v325 : BitVec 32 := Scalar.addi c0_i32_344 v324
  v325.toNat
def k0_dev18 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_346 : BitVec 32 := 1#32
  let v326 : BitVec 32 := Scalar.muli v25 c1_i32_346
  let v327 : BitVec 32 := Scalar.addi c0_i32_347 v326
  v327.toNat
def k0_dev19 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_356 : BitVec 32 := 1#32
  let v328 : BitVec 32 := Scalar.muli v25 c1_i32_356
  let v329 : BitVec 32 := Scalar.addi c0_i32_357 v328
  v329.toNat
def k0_dev20 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_366 : BitVec 32 := 1#32
  let v338 : BitVec 32 := Scalar.muli v37 c1_i32_366
  let v339 : BitVec 32 := Scalar.addi c0_i32_367 v338
  v339.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_424 : BitVec 32 := 1#32
  let v409 : BitVec 32 := Scalar.subi v12 c1_i32_424
  let c4_i32_425 : BitVec 32 := 4#32
  let c0_i32_426 : BitVec 32 := 0#32
  let v410 : BitVec 1 := Scalar.cmpi .eq c4_i32_425 c0_i32_426
  let c1_i32_427 : BitVec 32 := 1#32
  let v411 : BitVec 32 := Scalar.select v410 c1_i32_427 c4_i32_425
  let v412 : BitVec 32 := Scalar.remsi v409 v411
  let c0_i32_429 : BitVec 32 := 0#32
  let v414 : BitVec 1 := Scalar.cmpi .slt v412 c0_i32_429
  let c0_i32_430 : BitVec 32 := 0#32
  let v415 : BitVec 1 := Scalar.cmpi .slt v411 c0_i32_430
  let v416 : BitVec 1 := Scalar.xori v414 v415
  let c0_i32_428 : BitVec 32 := 0#32
  let v413 : BitVec 1 := Scalar.cmpi .ne v412 c0_i32_428
  let v417 : BitVec 1 := Scalar.andi v416 v413
  let v418 : BitVec 32 := Scalar.addi v412 v411
  let v419 : BitVec 32 := Scalar.select v417 v418 v412
  let v420 : BitVec 32 := Scalar.addi v13 v419
  let c4_i32_431 : BitVec 32 := 4#32
  let v421 : BitVec 32 := Scalar.addi v420 c4_i32_431
  let c8_i32_432 : BitVec 32 := 8#32
  let c0_i32_433 : BitVec 32 := 0#32
  let v422 : BitVec 1 := Scalar.cmpi .eq c8_i32_432 c0_i32_433
  let c1_i32_434 : BitVec 32 := 1#32
  let v423 : BitVec 32 := Scalar.select v422 c1_i32_434 c8_i32_432
  let v424 : BitVec 32 := Scalar.remsi v421 v423
  let c0_i32_436 : BitVec 32 := 0#32
  let v426 : BitVec 1 := Scalar.cmpi .slt v424 c0_i32_436
  let c0_i32_437 : BitVec 32 := 0#32
  let v427 : BitVec 1 := Scalar.cmpi .slt v423 c0_i32_437
  let v428 : BitVec 1 := Scalar.xori v426 v427
  let c0_i32_435 : BitVec 32 := 0#32
  let v425 : BitVec 1 := Scalar.cmpi .ne v424 c0_i32_435
  let v429 : BitVec 1 := Scalar.andi v428 v425
  let v430 : BitVec 32 := Scalar.addi v424 v423
  let v431 : BitVec 32 := Scalar.select v429 v430 v424
  let c512_i32_438 : BitVec 32 := 512#32
  let v432 : BitVec 32 := Scalar.muli v431 c512_i32_438
  let v439 : Index := Scalar.indexCast v432
  let c0_444 : Index := 0#32
  ![v439.toNat, 0]
def k0_off6 (d0 : Dev nD) (c1_i32_445 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v441 : BitVec 32 := Scalar.addi v12 c1_i32_445
  let c4_i32_446 : BitVec 32 := 4#32
  let c0_i32_447 : BitVec 32 := 0#32
  let v442 : BitVec 1 := Scalar.cmpi .eq c4_i32_446 c0_i32_447
  let c1_i32_448 : BitVec 32 := 1#32
  let v443 : BitVec 32 := Scalar.select v442 c1_i32_448 c4_i32_446
  let v444 : BitVec 32 := Scalar.remsi v441 v443
  let c0_i32_450 : BitVec 32 := 0#32
  let v446 : BitVec 1 := Scalar.cmpi .slt v444 c0_i32_450
  let c0_i32_451 : BitVec 32 := 0#32
  let v447 : BitVec 1 := Scalar.cmpi .slt v443 c0_i32_451
  let v448 : BitVec 1 := Scalar.xori v446 v447
  let c0_i32_449 : BitVec 32 := 0#32
  let v445 : BitVec 1 := Scalar.cmpi .ne v444 c0_i32_449
  let v449 : BitVec 1 := Scalar.andi v448 v445
  let v450 : BitVec 32 := Scalar.addi v444 v443
  let v451 : BitVec 32 := Scalar.select v449 v450 v444
  let v452 : BitVec 32 := Scalar.addi v13 v451
  let c4_i32_452 : BitVec 32 := 4#32
  let v453 : BitVec 32 := Scalar.addi v452 c4_i32_452
  let c8_i32_453 : BitVec 32 := 8#32
  let c0_i32_454 : BitVec 32 := 0#32
  let v454 : BitVec 1 := Scalar.cmpi .eq c8_i32_453 c0_i32_454
  let c1_i32_455 : BitVec 32 := 1#32
  let v455 : BitVec 32 := Scalar.select v454 c1_i32_455 c8_i32_453
  let v456 : BitVec 32 := Scalar.remsi v453 v455
  let c0_i32_457 : BitVec 32 := 0#32
  let v458 : BitVec 1 := Scalar.cmpi .slt v456 c0_i32_457
  let c0_i32_458 : BitVec 32 := 0#32
  let v459 : BitVec 1 := Scalar.cmpi .slt v455 c0_i32_458
  let v460 : BitVec 1 := Scalar.xori v458 v459
  let c0_i32_456 : BitVec 32 := 0#32
  let v457 : BitVec 1 := Scalar.cmpi .ne v456 c0_i32_456
  let v461 : BitVec 1 := Scalar.andi v460 v457
  let v462 : BitVec 32 := Scalar.addi v456 v455
  let v463 : BitVec 32 := Scalar.select v461 v462 v456
  let c512_i32_459 : BitVec 32 := 512#32
  let v464 : BitVec 32 := Scalar.muli v463 c512_i32_459
  let c256_i32_460 : BitVec 32 := 256#32
  let v465 : BitVec 32 := Scalar.addi v464 c256_i32_460
  let v472 : Index := Scalar.indexCast v465
  let c0_466 : Index := 0#32
  ![v472.toNat, 0]
def k0_dev21 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_468 : BitVec 32 := 1#32
  let v474 : BitVec 32 := Scalar.muli v37 c1_i32_468
  let v475 : BitVec 32 := Scalar.addi c0_i32_469 v474
  v475.toNat
def k0_dev22 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_471 : BitVec 32 := 1#32
  let v476 : BitVec 32 := Scalar.muli v25 c1_i32_471
  let v477 : BitVec 32 := Scalar.addi c0_i32_472 v476
  v477.toNat
def k0_dev23 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_495 : BitVec 32 := 1#32
  let v490 : BitVec 32 := Scalar.muli v25 c1_i32_495
  let v491 : BitVec 32 := Scalar.addi c0_i32_496 v490
  v491.toNat
def k0_dev24 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v26 : BitVec 32 := Scalar.subi v12 c1_i32_11
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let v37 : BitVec 32 := Scalar.addi v13 v36
  let c1_i32_522 : BitVec 32 := 1#32
  let v510 : BitVec 32 := Scalar.muli v37 c1_i32_522
  let v511 : BitVec 32 := Scalar.addi c0_i32_523 v510
  v511.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c2_i32_528 : BitVec 32 := 2#32
  let v518 : BitVec 32 := Scalar.addi v12 c2_i32_528
  let c4_i32_529 : BitVec 32 := 4#32
  let c0_i32_530 : BitVec 32 := 0#32
  let v519 : BitVec 1 := Scalar.cmpi .eq c4_i32_529 c0_i32_530
  let c1_i32_531 : BitVec 32 := 1#32
  let v520 : BitVec 32 := Scalar.select v519 c1_i32_531 c4_i32_529
  let v521 : BitVec 32 := Scalar.remsi v518 v520
  let c0_i32_533 : BitVec 32 := 0#32
  let v523 : BitVec 1 := Scalar.cmpi .slt v521 c0_i32_533
  let c0_i32_534 : BitVec 32 := 0#32
  let v524 : BitVec 1 := Scalar.cmpi .slt v520 c0_i32_534
  let v525 : BitVec 1 := Scalar.xori v523 v524
  let c0_i32_532 : BitVec 32 := 0#32
  let v522 : BitVec 1 := Scalar.cmpi .ne v521 c0_i32_532
  let v526 : BitVec 1 := Scalar.andi v525 v522
  let v527 : BitVec 32 := Scalar.addi v521 v520
  let v528 : BitVec 32 := Scalar.select v526 v527 v521
  let v529 : BitVec 32 := Scalar.addi v13 v528
  let c4_i32_535 : BitVec 32 := 4#32
  let v530 : BitVec 32 := Scalar.addi v529 c4_i32_535
  let c8_i32_536 : BitVec 32 := 8#32
  let c0_i32_537 : BitVec 32 := 0#32
  let v531 : BitVec 1 := Scalar.cmpi .eq c8_i32_536 c0_i32_537
  let c1_i32_538 : BitVec 32 := 1#32
  let v532 : BitVec 32 := Scalar.select v531 c1_i32_538 c8_i32_536
  let v533 : BitVec 32 := Scalar.remsi v530 v532
  let c0_i32_540 : BitVec 32 := 0#32
  let v535 : BitVec 1 := Scalar.cmpi .slt v533 c0_i32_540
  let c0_i32_541 : BitVec 32 := 0#32
  let v536 : BitVec 1 := Scalar.cmpi .slt v532 c0_i32_541
  let v537 : BitVec 1 := Scalar.xori v535 v536
  let c0_i32_539 : BitVec 32 := 0#32
  let v534 : BitVec 1 := Scalar.cmpi .ne v533 c0_i32_539
  let v538 : BitVec 1 := Scalar.andi v537 v534
  let v539 : BitVec 32 := Scalar.addi v533 v532
  let v540 : BitVec 32 := Scalar.select v538 v539 v533
  let c512_i32_542 : BitVec 32 := 512#32
  let v541 : BitVec 32 := Scalar.muli v540 c512_i32_542
  let v548 : Index := Scalar.indexCast v541
  let c0_548 : Index := 0#32
  ![v548.toNat, 0]
def k0_dev25 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_610 : BitVec 32 := 1#32
  let v592 : BitVec 32 := Scalar.muli v48 c1_i32_610
  let v593 : BitVec 32 := Scalar.addi c0_i32_611 v592
  v593.toNat
def k0_dev26 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v38 : BitVec 32 := Scalar.addi v2 c4_i32_18
  let c8_i32_19 : BitVec 32 := 8#32
  let c0_i32_20 : BitVec 32 := 0#32
  let v39 : BitVec 1 := Scalar.cmpi .eq c8_i32_19 c0_i32_20
  let c1_i32_21 : BitVec 32 := 1#32
  let v40 : BitVec 32 := Scalar.select v39 c1_i32_21 c8_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_617 : BitVec 32 := 1#32
  let v597 : BitVec 32 := Scalar.muli v48 c1_i32_617
  let v598 : BitVec 32 := Scalar.addi c0_i32_618 v597
  v598.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_672 : BitVec 32 := 3#32
  let v659 : BitVec 32 := Scalar.subi v12 c3_i32_672
  let c4_i32_673 : BitVec 32 := 4#32
  let c0_i32_674 : BitVec 32 := 0#32
  let v660 : BitVec 1 := Scalar.cmpi .eq c4_i32_673 c0_i32_674
  let c1_i32_675 : BitVec 32 := 1#32
  let v661 : BitVec 32 := Scalar.select v660 c1_i32_675 c4_i32_673
  let v662 : BitVec 32 := Scalar.remsi v659 v661
  let c0_i32_677 : BitVec 32 := 0#32
  let v664 : BitVec 1 := Scalar.cmpi .slt v662 c0_i32_677
  let c0_i32_678 : BitVec 32 := 0#32
  let v665 : BitVec 1 := Scalar.cmpi .slt v661 c0_i32_678
  let v666 : BitVec 1 := Scalar.xori v664 v665
  let c0_i32_676 : BitVec 32 := 0#32
  let v663 : BitVec 1 := Scalar.cmpi .ne v662 c0_i32_676
  let v667 : BitVec 1 := Scalar.andi v666 v663
  let v668 : BitVec 32 := Scalar.addi v662 v661
  let v669 : BitVec 32 := Scalar.select v667 v668 v662
  let v670 : BitVec 32 := Scalar.addi v13 v669
  let c4_i32_679 : BitVec 32 := 4#32
  let v671 : BitVec 32 := Scalar.addi v670 c4_i32_679
  let c8_i32_680 : BitVec 32 := 8#32
  let c0_i32_681 : BitVec 32 := 0#32
  let v672 : BitVec 1 := Scalar.cmpi .eq c8_i32_680 c0_i32_681
  let c1_i32_682 : BitVec 32 := 1#32
  let v673 : BitVec 32 := Scalar.select v672 c1_i32_682 c8_i32_680
  let v674 : BitVec 32 := Scalar.remsi v671 v673
  let c0_i32_684 : BitVec 32 := 0#32
  let v676 : BitVec 1 := Scalar.cmpi .slt v674 c0_i32_684
  let c0_i32_685 : BitVec 32 := 0#32
  let v677 : BitVec 1 := Scalar.cmpi .slt v673 c0_i32_685
  let v678 : BitVec 1 := Scalar.xori v676 v677
  let c0_i32_683 : BitVec 32 := 0#32
  let v675 : BitVec 1 := Scalar.cmpi .ne v674 c0_i32_683
  let v679 : BitVec 1 := Scalar.andi v678 v675
  let v680 : BitVec 32 := Scalar.addi v674 v673
  let v681 : BitVec 32 := Scalar.select v679 v680 v674
  let c512_i32_707 : BitVec 32 := 512#32
  let v710 : BitVec 32 := Scalar.muli v681 c512_i32_707
  let v717 : Index := Scalar.indexCast v710
  let c0_713 : Index := 0#32
  ![v717.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_686 : BitVec 32 := 3#32
  let v682 : BitVec 32 := Scalar.addi v12 c3_i32_686
  let c4_i32_687 : BitVec 32 := 4#32
  let c0_i32_688 : BitVec 32 := 0#32
  let v683 : BitVec 1 := Scalar.cmpi .eq c4_i32_687 c0_i32_688
  let c1_i32_689 : BitVec 32 := 1#32
  let v684 : BitVec 32 := Scalar.select v683 c1_i32_689 c4_i32_687
  let v685 : BitVec 32 := Scalar.remsi v682 v684
  let c0_i32_691 : BitVec 32 := 0#32
  let v687 : BitVec 1 := Scalar.cmpi .slt v685 c0_i32_691
  let c0_i32_692 : BitVec 32 := 0#32
  let v688 : BitVec 1 := Scalar.cmpi .slt v684 c0_i32_692
  let v689 : BitVec 1 := Scalar.xori v687 v688
  let c0_i32_690 : BitVec 32 := 0#32
  let v686 : BitVec 1 := Scalar.cmpi .ne v685 c0_i32_690
  let v690 : BitVec 1 := Scalar.andi v689 v686
  let v691 : BitVec 32 := Scalar.addi v685 v684
  let v692 : BitVec 32 := Scalar.select v690 v691 v685
  let v693 : BitVec 32 := Scalar.addi v13 v692
  let c4_i32_693 : BitVec 32 := 4#32
  let v694 : BitVec 32 := Scalar.addi v693 c4_i32_693
  let c8_i32_694 : BitVec 32 := 8#32
  let c0_i32_695 : BitVec 32 := 0#32
  let v695 : BitVec 1 := Scalar.cmpi .eq c8_i32_694 c0_i32_695
  let c1_i32_696 : BitVec 32 := 1#32
  let v696 : BitVec 32 := Scalar.select v695 c1_i32_696 c8_i32_694
  let v697 : BitVec 32 := Scalar.remsi v694 v696
  let c0_i32_698 : BitVec 32 := 0#32
  let v699 : BitVec 1 := Scalar.cmpi .slt v697 c0_i32_698
  let c0_i32_699 : BitVec 32 := 0#32
  let v700 : BitVec 1 := Scalar.cmpi .slt v696 c0_i32_699
  let v701 : BitVec 1 := Scalar.xori v699 v700
  let c0_i32_697 : BitVec 32 := 0#32
  let v698 : BitVec 1 := Scalar.cmpi .ne v697 c0_i32_697
  let v702 : BitVec 1 := Scalar.andi v701 v698
  let v703 : BitVec 32 := Scalar.addi v697 v696
  let v704 : BitVec 32 := Scalar.select v702 v703 v697
  let c512_i32_721 : BitVec 32 := 512#32
  let v724 : BitVec 32 := Scalar.muli v704 c512_i32_721
  let c256_i32_722 : BitVec 32 := 256#32
  let v725 : BitVec 32 := Scalar.addi v724 c256_i32_722
  let v732 : Index := Scalar.indexCast v725
  let c0_728 : Index := 0#32
  ![v732.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_672 : BitVec 32 := 3#32
  let v659 : BitVec 32 := Scalar.subi v12 c3_i32_672
  let c4_i32_673 : BitVec 32 := 4#32
  let c0_i32_674 : BitVec 32 := 0#32
  let v660 : BitVec 1 := Scalar.cmpi .eq c4_i32_673 c0_i32_674
  let c1_i32_675 : BitVec 32 := 1#32
  let v661 : BitVec 32 := Scalar.select v660 c1_i32_675 c4_i32_673
  let v662 : BitVec 32 := Scalar.remsi v659 v661
  let c0_i32_677 : BitVec 32 := 0#32
  let v664 : BitVec 1 := Scalar.cmpi .slt v662 c0_i32_677
  let c0_i32_678 : BitVec 32 := 0#32
  let v665 : BitVec 1 := Scalar.cmpi .slt v661 c0_i32_678
  let v666 : BitVec 1 := Scalar.xori v664 v665
  let c0_i32_676 : BitVec 32 := 0#32
  let v663 : BitVec 1 := Scalar.cmpi .ne v662 c0_i32_676
  let v667 : BitVec 1 := Scalar.andi v666 v663
  let v668 : BitVec 32 := Scalar.addi v662 v661
  let v669 : BitVec 32 := Scalar.select v667 v668 v662
  let v670 : BitVec 32 := Scalar.addi v13 v669
  let c4_i32_679 : BitVec 32 := 4#32
  let v671 : BitVec 32 := Scalar.addi v670 c4_i32_679
  let c8_i32_680 : BitVec 32 := 8#32
  let c0_i32_681 : BitVec 32 := 0#32
  let v672 : BitVec 1 := Scalar.cmpi .eq c8_i32_680 c0_i32_681
  let c1_i32_682 : BitVec 32 := 1#32
  let v673 : BitVec 32 := Scalar.select v672 c1_i32_682 c8_i32_680
  let v674 : BitVec 32 := Scalar.remsi v671 v673
  let c0_i32_684 : BitVec 32 := 0#32
  let v676 : BitVec 1 := Scalar.cmpi .slt v674 c0_i32_684
  let c0_i32_685 : BitVec 32 := 0#32
  let v677 : BitVec 1 := Scalar.cmpi .slt v673 c0_i32_685
  let v678 : BitVec 1 := Scalar.xori v676 v677
  let c0_i32_683 : BitVec 32 := 0#32
  let v675 : BitVec 1 := Scalar.cmpi .ne v674 c0_i32_683
  let v679 : BitVec 1 := Scalar.andi v678 v675
  let v680 : BitVec 32 := Scalar.addi v674 v673
  let v681 : BitVec 32 := Scalar.select v679 v680 v674
  let c512_i32_737 : BitVec 32 := 512#32
  let v740 : BitVec 32 := Scalar.muli v681 c512_i32_737
  let c88_i32_738 : BitVec 32 := 88#32
  let v741 : BitVec 32 := Scalar.addi v740 c88_i32_738
  let v748 : Index := Scalar.indexCast v741
  let c0_743 : Index := 0#32
  ![v748.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32_686 : BitVec 32 := 3#32
  let v682 : BitVec 32 := Scalar.addi v12 c3_i32_686
  let c4_i32_687 : BitVec 32 := 4#32
  let c0_i32_688 : BitVec 32 := 0#32
  let v683 : BitVec 1 := Scalar.cmpi .eq c4_i32_687 c0_i32_688
  let c1_i32_689 : BitVec 32 := 1#32
  let v684 : BitVec 32 := Scalar.select v683 c1_i32_689 c4_i32_687
  let v685 : BitVec 32 := Scalar.remsi v682 v684
  let c0_i32_691 : BitVec 32 := 0#32
  let v687 : BitVec 1 := Scalar.cmpi .slt v685 c0_i32_691
  let c0_i32_692 : BitVec 32 := 0#32
  let v688 : BitVec 1 := Scalar.cmpi .slt v684 c0_i32_692
  let v689 : BitVec 1 := Scalar.xori v687 v688
  let c0_i32_690 : BitVec 32 := 0#32
  let v686 : BitVec 1 := Scalar.cmpi .ne v685 c0_i32_690
  let v690 : BitVec 1 := Scalar.andi v689 v686
  let v691 : BitVec 32 := Scalar.addi v685 v684
  let v692 : BitVec 32 := Scalar.select v690 v691 v685
  let v693 : BitVec 32 := Scalar.addi v13 v692
  let c4_i32_693 : BitVec 32 := 4#32
  let v694 : BitVec 32 := Scalar.addi v693 c4_i32_693
  let c8_i32_694 : BitVec 32 := 8#32
  let c0_i32_695 : BitVec 32 := 0#32
  let v695 : BitVec 1 := Scalar.cmpi .eq c8_i32_694 c0_i32_695
  let c1_i32_696 : BitVec 32 := 1#32
  let v696 : BitVec 32 := Scalar.select v695 c1_i32_696 c8_i32_694
  let v697 : BitVec 32 := Scalar.remsi v694 v696
  let c0_i32_698 : BitVec 32 := 0#32
  let v699 : BitVec 1 := Scalar.cmpi .slt v697 c0_i32_698
  let c0_i32_699 : BitVec 32 := 0#32
  let v700 : BitVec 1 := Scalar.cmpi .slt v696 c0_i32_699
  let v701 : BitVec 1 := Scalar.xori v699 v700
  let c0_i32_697 : BitVec 32 := 0#32
  let v698 : BitVec 1 := Scalar.cmpi .ne v697 c0_i32_697
  let v702 : BitVec 1 := Scalar.andi v701 v698
  let v703 : BitVec 32 := Scalar.addi v697 v696
  let v704 : BitVec 32 := Scalar.select v702 v703 v697
  let c512_i32_752 : BitVec 32 := 512#32
  let v756 : BitVec 32 := Scalar.muli v704 c512_i32_752
  let c256_i32_753 : BitVec 32 := 256#32
  let v757 : BitVec 32 := Scalar.addi v756 c256_i32_753
  let c88_i32_754 : BitVec 32 := 88#32
  let v758 : BitVec 32 := Scalar.addi v757 c88_i32_754
  let v765 : Index := Scalar.indexCast v758
  let c0_760 : Index := 0#32
  ![v765.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Mesh.lean ====
/- The mesh the kernel runs on: two planes of four devices, `{0,1,2,3}` and `{4,5,6,7}`. Every device has a right and a left
   neighbour on the ring of its plane and a partner at the same place of the other plane. The kernel's device chains and the
   row offsets of its stores are read off as functions of the device. -/
module

public import proofs.«01_k».proof.Proof.Gen.KernelIdeal
public import proofs.«01_k».proof.Proof.Gen.KernelIdeal.Skeleton
public import proofs.«01_k».proof.Proof.Gen.KernelIdeal.Frame

@[expose] public section

noncomputable section

namespace Cert.KernelIdeal.Mesh

open Cert.KernelIdeal.Gen
open Idealize.ShloMosaic Idealize.ShloMosaic.TcCoe

set_option backward.proofsInPublic true in
/-- The right neighbour on the ring of the device's plane. -/
def rt (c : Dev nD) : Dev nD := ⟨c.val / 4 * 4 + (c.val + 1) % 4, by have := c.isLt; have : nD = 8 := rfl; omega⟩
set_option backward.proofsInPublic true in
/-- The left neighbour on the ring of the device's plane. -/
def lf (c : Dev nD) : Dev nD := ⟨c.val / 4 * 4 + (c.val + 3) % 4, by have := c.isLt; have : nD = 8 := rfl; omega⟩
set_option backward.proofsInPublic true in
/-- The partner in the other plane. -/
def pa (c : Dev nD) : Dev nD := ⟨(c.val + 4) % 8, by have := c.isLt; have : nD = 8 := rfl; omega⟩

theorem rt_lf : ∀ c, rt (lf c) = c := by decide
theorem lf_rt : ∀ c, lf (rt c) = c := by decide
theorem pa_pa : ∀ c, pa (pa c) = c := by decide
theorem lf_pa : ∀ c, lf (pa c) = pa (lf c) := by decide
theorem rt_pa : ∀ c, rt (pa c) = pa (rt c) := by decide
theorem lf4 : ∀ c, lf (lf (lf (lf c))) = c := by decide
theorem rt4 : ∀ c, rt (rt (rt (rt c))) = c := by decide

/-- One step to the right, as a permutation of the devices; -/
def rtE : Dev nD ≃ Dev nD := ⟨rt, lf, lf_rt, rt_lf⟩
/-- one to the left; -/
def lfE : Dev nD ≃ Dev nD := ⟨lf, rt, rt_lf, lf_rt⟩
/-- and the swap of the planes. -/
def paE : Dev nD ≃ Dev nD := ⟨pa, pa, pa_pa, pa_pa⟩

theorem dev1_eq : ∀ c : Dev nD, (⟨k0_dev1 c, k0_dev1_lt c⟩ : Dev nD) = lf c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = pa c := by decide +kernel
theorem dev4_eq : ∀ c : Dev nD, (⟨k0_dev4 c, k0_dev4_lt c⟩ : Dev nD) = pa c := by decide +kernel
theorem dev5_eq : ∀ c : Dev nD, (⟨k0_dev5 c, k0_dev5_lt c⟩ : Dev nD) = rt c := by decide +kernel
theorem dev6_eq : ∀ c : Dev nD, (⟨k0_dev6 c, k0_dev6_lt c⟩ : Dev nD) = lf c := by decide +kernel
theorem dev7_eq : ∀ c : Dev nD, (⟨k0_dev7 c, k0_dev7_lt c⟩ : Dev nD) = rt c := by decide +kernel
theorem dev8_eq : ∀ c : Dev nD, (⟨k0_dev8 c, k0_dev8_lt c⟩ : Dev nD) = rt c := by decide +kernel
theorem dev9_eq : ∀ c : Dev nD, (⟨k0_dev9 c, k0_dev9_lt c⟩ : Dev nD) = lf c := by decide +kernel
theorem dev10_eq : ∀ c : Dev nD, (⟨k0_dev10 c, k0_dev10_lt c⟩ : Dev nD) = lf c := by decide +kernel
theorem dev11_eq : ∀ c : Dev nD, (⟨k0_dev11 c, k0_dev11_lt c⟩ : Dev nD) = rt c := by decide +kernel
theorem dev12_eq : ∀ c : Dev nD, (⟨k0_dev12 c, k0_dev12_lt c⟩ : Dev nD) = lf c := by decide +kernel
theorem dev13_eq : ∀ c : Dev nD, (⟨k0_dev13 c, k0_dev13_lt c⟩ : Dev nD) = pa c := by decide +kernel
theorem dev14_eq : ∀ c : Dev nD, (⟨k0_dev14 c, k0_dev14_lt c⟩ : Dev nD) = pa c := by decide +kernel
theorem dev15_eq : ∀ c : Dev nD, (⟨k0_dev15 c, k0_dev15_lt c⟩ : Dev nD) = pa c := by decide +kernel
theorem dev16_eq : ∀ c : Dev nD, (⟨k0_dev16 c, k0_dev16_lt c⟩ : Dev nD) = pa c := by decide +kernel
theorem dev17_eq : ∀ c : Dev nD, (⟨k0_dev17 c, k0_dev17_lt c⟩ : Dev nD) = lf c := by decide +kernel
theorem dev18_eq : ∀ c : Dev nD, (⟨k0_dev18 c, k0_dev18_lt c⟩ : Dev nD) = rt c := by decide +kernel
theorem dev19_eq : ∀ c : Dev nD, (⟨k0_dev19 c, k0_dev19_lt c⟩ : Dev nD) = rt c := by decide +kernel
theorem dev20_eq : ∀ c : Dev nD, (⟨k0_dev20 c, k0_dev20_lt c⟩ : Dev nD) = lf c := by decide +kernel
theorem dev21_eq : ∀ c : Dev nD, (⟨k0_dev21 c, k0_dev21_lt c⟩ : Dev nD) = lf c := by decide +kernel
theorem dev22_eq : ∀ c : Dev nD, (⟨k0_dev22 c, k0_dev22_lt c⟩ : Dev nD) = rt c := by decide +kernel
theorem dev23_eq : ∀ c : Dev nD, (⟨k0_dev23 c, k0_dev23_lt c⟩ : Dev nD) = rt c := by decide +kernel
theorem dev24_eq : ∀ c : Dev nD, (⟨k0_dev24 c, k0_dev24_lt c⟩ : Dev nD) = lf c := by decide +kernel
theorem dev25_eq : ∀ c : Dev nD, (⟨k0_dev25 c, k0_dev25_lt c⟩ : Dev nD) = pa c := by decide +kernel
theorem dev26_eq : ∀ c : Dev nD, (⟨k0_dev26 c, k0_dev26_lt c⟩ : Dev nD) = pa c := by decide +kernel

/-- The rows device `d`'s block takes in a result. -/
theorem off1_eq : ∀ c : Dev nD, k0_off1 c = ![512 * c.val, 0] := by decide +kernel
theorem off2_eq : ∀ c : Dev nD, k0_off2 c = ![512 * (pa c).val, 0] := by decide +kernel
theorem off3_eq1 : ∀ c : Dev nD, k0_off3 c 1#32 = ![512 * (lf c).val, 0] := by decide +kernel
theorem off3_eq2 : ∀ c : Dev nD, k0_off3 c 2#32 = ![512 * (lf (lf c)).val, 0] := by decide +kernel
theorem off3_eq3 : ∀ c : Dev nD, k0_off3 c 3#32 = ![512 * (lf (lf (lf c))).val, 0] := by decide +kernel
theorem off4_eq1 : ∀ c : Dev nD, k0_off4 c 1#32 = ![512 * (rt c).val + 256, 0] := by decide +kernel
theorem off4_eq2 : ∀ c : Dev nD, k0_off4 c 2#32 = ![512 * (rt (rt c)).val + 256, 0] := by decide +kernel
theorem off4_eq3 : ∀ c : Dev nD, k0_off4 c 3#32 = ![512 * (rt (rt (rt c))).val + 256, 0] := by decide +kernel
theorem off5_eq : ∀ c : Dev nD, k0_off5 c = ![512 * (pa (lf c)).val, 0] := by decide +kernel
theorem off6_eq1 : ∀ c : Dev nD, k0_off6 c 1#32 = ![512 * (pa (rt c)).val + 256, 0] := by decide +kernel
theorem off6_eq2 : ∀ c : Dev nD, k0_off6 c 2#32 = ![512 * (pa (rt (rt c))).val + 256, 0] := by decide +kernel
theorem off7_eq : ∀ c : Dev nD, k0_off7 c = ![512 * (pa (lf (lf c))).val, 0] := by decide +kernel
theorem off8_eq : ∀ c : Dev nD, k0_off8 c = ![512 * (pa (lf (lf (lf c)))).val, 0] := by decide +kernel
theorem off9_eq : ∀ c : Dev nD, k0_off9 c = ![512 * (pa (rt (rt (rt c)))).val + 256, 0] := by decide +kernel
theorem off10_eq : ∀ c : Dev nD, k0_off10 c = ![512 * (pa (lf (lf (lf c)))).val + 88, 0] := by decide +kernel
theorem off11_eq : ∀ c : Dev nD, k0_off11 c = ![512 * (pa (rt (rt (rt c)))).val + 344, 0] := by decide +kernel

end Cert.KernelIdeal.Mesh

end
-- ==== Proof.Views.lean ====
/- The parts of the buffers that the transfers read and write, as sets of rows; the contents of the buffers as rows of a
   device's block of `x`; and what every view of the kernel covers and reads in these terms. -/
module

public import proofs.«01_k».proof.Proof.Mesh
public import Idealize.ShloMosaic.Lib.ValueLayout
public import Idealize.ShloMosaic.Lib.ValueIdxCoords

@[expose] public section

noncomputable section

namespace Cert.KernelIdeal.Views

open Cert.KernelIdeal Cert.KernelIdeal.Gen Cert.KernelIdeal.Mesh
open Idealize.ShloMosaic Idealize.ShloMosaic.TcCoe
open Idealize.ShloMosaic.ValueIdx (ix2 ix3)

variable {F : FTy → Type}

/-! ## Rows of a block -/

/-- Row `r`, lane `l` of device `d`'s block of `x`. -/
def xa (X : Dev nD → S512x4096.Idx → Elt F .f32) (d : Dev nD) (r l : ℕ) : Elt F .f32 :=
  X d (ix2 (⟨r % 512, Nat.mod_lt _ (by decide)⟩ : Fin 512) (⟨l % 4096, Nat.mod_lt _ (by decide)⟩ : Fin 4096))

/-- The rows of device `d`'s block from row `o` on, as the contents of a buffer of `n` rows. -/
def c2 {n : ℕ} (X : Dev nD → S512x4096.Idx → Elt F .f32) (d : Dev nD) (o : ℕ) : (⟨2, ![n, 4096]⟩ : Shape).Idx → Elt F .f32 :=
  fun i => xa X d (o + (i 0).val) (i 1).val

/-- The same as the contents of a slot of a buffer of two slots. -/
def c3 (X : Dev nD → S512x4096.Idx → Elt F .f32) (d : Dev nD) (o : ℕ) : S2x256x4096.Idx → Elt F .f32 :=
  fun i => xa X d (o + (i 1).val) (i 2).val

theorem c2_self (X : Dev nD → S512x4096.Idx → Elt F .f32) (d : Dev nD) : c2 (n := 512) X d 0 = X d := by
  funext i
  have h0 : (i 0).val < 512 := (i 0).isLt
  have h1 : (i 1).val < 4096 := (i 1).isLt
  refine congrArg (X d) (funext fun a => Fin.ext ?_)
  match a with
  | ⟨0, _⟩ => show (0 + (i 0).val) % 512 = (i 0).val; rw [Nat.zero_add, Nat.mod_eq_of_lt h0]
  | ⟨1, _⟩ => show (i 1).val % 4096 = (i 1).val; rw [Nat.mod_eq_of_lt h1]

/-! ## Sets of rows -/

/-- Rows `lo ≤ r < hi` of a buffer of `n` rows. -/
def rows2 (n lo hi : ℕ) : Finset (⟨2, ![n, 4096]⟩ : Shape).Idx := Finset.univ.filter fun i => lo ≤ (i 0).val ∧ (i 0).val < hi
/-- Rows `lo ≤ r < hi` of slot `s`. -/
def rows3 (s lo hi : ℕ) : Finset S2x256x4096.Idx := Finset.univ.filter fun i => (i 0).val = s ∧ lo ≤ (i 1).val ∧ (i 1).val < hi

theorem mem_rows2 {n lo hi : ℕ} {i : (⟨2, ![n, 4096]⟩ : Shape).Idx} : i ∈ rows2 n lo hi ↔ lo ≤ (i 0).val ∧ (i 0).val < hi := by
  simp [rows2]
theorem mem_rows3 {s lo hi : ℕ} {i : S2x256x4096.Idx} : i ∈ rows3 s lo hi ↔ (i 0).val = s ∧ lo ≤ (i 1).val ∧ (i 1).val < hi := by
  simp [rows3]

theorem rows2_univ (n : ℕ) : rows2 n 0 n = Finset.univ := by
  ext i; have : (i 0).val < n := (i 0).isLt; simp only [mem_rows2, Finset.mem_univ, iff_true]; omega
theorem rows2_union {n a b d : ℕ} (h : a ≤ b) (h' : b ≤ d) : rows2 n a b ∪ rows2 n b d = rows2 n a d := by
  ext i; simp only [Finset.mem_union, mem_rows2]; omega
theorem rows2_disj {n a b d : ℕ} : Disjoint (rows2 n a b) (rows2 n b d) := by
  rw [Finset.disjoint_left]; intro i h h'; rw [mem_rows2] at h h'; omega
theorem rows3_union {s a b d : ℕ} (h : a ≤ b) (h' : b ≤ d) : rows3 s a b ∪ rows3 s b d = rows3 s a d := by
  ext i; simp only [Finset.mem_union, mem_rows3]; omega
theorem rows3_disj {s a b d : ℕ} : Disjoint (rows3 s a b) (rows3 s b d) := by
  rw [Finset.disjoint_left]; intro i h h'; rw [mem_rows3] at h h'; omega
theorem slots_union : rows3 0 0 256 ∪ rows3 1 0 256 = Finset.univ := by
  ext i
  have h0 : (i 0).val < 2 := (i 0).isLt
  have h1 : (i 1).val < 256 := (i 1).isLt
  simp only [Finset.mem_union, mem_rows3, Finset.mem_univ, iff_true]; omega
theorem slots_disj : Disjoint (rows3 0 0 256) (rows3 1 0 256) := by
  rw [Finset.disjoint_left]; intro i h h'; rw [mem_rows3] at h h'; omega

/-! ## The views -/

abbrev xM : Memref sig .tc .vmem S512x4096 .f32 := Memref.whole cc0_stg0_0
abbrev wM : Memref sig .tc .vmem S4096x256 .f32 := Memref.whole cc0_stg1_0
abbrev oM : Memref sig .tc .vmem S4096x256 .f32 := Memref.whole cc0_stg2_0

/-- `n` rows from row `o` on of a buffer of rank two. -/
abbrev sl2 {m : ℕ} (M : Memref sig .tc .vmem ⟨2, ![m, 4096]⟩ .f32) (o n : ℕ)
    (h : ∀ a, (![o, 0] : Fin 2 → ℕ) a + (⟨2, ![n, 4096]⟩ : Shape).size a ≤ (⟨2, ![m, 4096]⟩ : Shape).size a) : Memref sig .tc .vmem ⟨2, ![n, 4096]⟩ .f32 :=
  M.slice (Rect.unit (s := ⟨2, ![m, 4096]⟩) ![o, 0] (⟨2, ![n, 4096]⟩ : Shape).size h) (fun _ => rfl)

/-- Slot `s` of a buffer of two slots. -/
abbrev slot (M : Memref sig .tc .vmem S2x256x4096 .f32) (s : ℕ)
    (h : ∀ a, (![s, 0, 0] : Fin 3 → ℕ) a + S1x256x4096.size a ≤ S2x256x4096.size a) : Memref sig .tc .vmem S256x4096 .f32 :=
  (M.slice (Rect.unit (s := S2x256x4096) ![s, 0, 0] S1x256x4096.size h) (fun _ => rfl)).squeeze S256x4096 squeezes_S1x256x4096_S256x4096

theorem sl2_emb {m : ℕ} {M : Memref sig .tc .vmem ⟨2, ![m, 4096]⟩ .f32} {o n : ℕ} {h} (x : (⟨2, ![n, 4096]⟩ : Shape).Idx) :
    ∃ y : (⟨2, ![m, 4096]⟩ : Shape).Idx, (sl2 M o n h).view.emb x = M.view.emb y ∧ (y 0).val = o + (x 0).val ∧ (y 1).val = (x 1).val :=
  ⟨(Rect.unit (s := ⟨2, ![m, 4096]⟩) ![o, 0] (⟨2, ![n, 4096]⟩ : Shape).size h).emb x, rfl, by
    rw [Rect.emb_apply]; show o + 1 * _ = _; rw [Nat.one_mul], by rw [Rect.emb_apply]; show 0 + 1 * _ = _; rw [Nat.one_mul, Nat.zero_add]⟩

theorem slot_emb {M : Memref sig .tc .vmem S2x256x4096 .f32} {s : ℕ} {h} (x : S256x4096.Idx) :
    ∃ y : S2x256x4096.Idx, (slot M s h).view.emb x = M.view.emb y ∧ (y 0).val = s ∧ (y 1).val = (x 0).val ∧ (y 2).val = (x 1).val := by
  refine ⟨(Rect.unit (s := S2x256x4096) ![s, 0, 0] S1x256x4096.size h).emb
    (Shape.reshapeEquiv squeezes_S1x256x4096_S256x4096.numel_eq x), rfl, ?_, ?_, ?_⟩ <;>
  · rw [Rect.emb_apply, Shape.reshapeEquiv_cons_one (d := ![256, 4096])]
    first
    | (show s + 1 * 0 = s; omega)
    | (show 0 + 1 * (x 0).val = _; omega)
    | (show 0 + 1 * (x 1).val = _; omega)

theorem sl2_set {m n o : ℕ} {M : Memref sig .tc .vmem ⟨2, ![m, 4096]⟩ .f32} {h} :
    (sl2 M o n h).view.set = (rows2 m o (o + n)).map M.view.emb := by
  rw [View.set_slice]
  congr 1
  ext i
  rw [Rect.mem_set_unit, mem_rows2]
  have h1 : (i 1).val < 4096 := (i 1).isLt
  constructor
  · intro hh; exact hh 0
  · intro hh a
    match a with
    | ⟨0, _⟩ => exact hh
    | ⟨1, _⟩ => show 0 ≤ (i 1).val ∧ (i 1).val < 0 + 4096; omega

theorem slot_set {s : ℕ} {M : Memref sig .tc .vmem S2x256x4096 .f32} {h} : (slot M s h).view.set = (rows3 s 0 256).map M.view.emb := by
  show ((M.slice (Rect.unit (s := S2x256x4096) ![s, 0, 0] S1x256x4096.size h) (fun _ => rfl)).view.reshape S256x4096 _).set = _
  refine (View.set_reshape _ _).trans ?_
  refine (View.set_slice _ _).trans ?_
  congr 1
  ext i
  rw [Rect.mem_set_unit, mem_rows3]
  have h1 : (i 1).val < 256 := (i 1).isLt
  have h2 : (i 2).val < 4096 := (i 2).isLt
  constructor
  · intro hh
    have h0 : s ≤ (i 0).val ∧ (i 0).val < s + 1 := hh 0
    omega
  · intro hh a
    match a with
    | ⟨0, _⟩ => show s ≤ (i 0).val ∧ (i 0).val < s + 1; omega
    | ⟨1, _⟩ => show 0 ≤ (i 1).val ∧ (i 1).val < 0 + 256; omega
    | ⟨2, _⟩ => show 0 ≤ (i 2).val ∧ (i 2).val < 0 + 4096; omega

/-- Rows of a slot. -/
theorem sl2_slot_set {s o n : ℕ} (hn : o + n ≤ 256) {M : Memref sig .tc .vmem S2x256x4096 .f32} {h h'} :
    (sl2 (slot M s h) o n h').view.set = (rows3 s o (o + n)).map M.view.emb := by
  rw [sl2_set]
  ext i
  simp only [Finset.mem_map]
  constructor
  · rintro ⟨x, hx, rfl⟩
    obtain ⟨y, hy, h0, h1, h2⟩ := slot_emb (M := M) (h := h) x
    refine ⟨y, ?_, hy.symm⟩
    rw [mem_rows2] at hx
    rw [mem_rows3]; omega
  · rintro ⟨y, hy, rfl⟩
    rw [mem_rows3] at hy
    have hy1 : (y 1).val < 256 := (y 1).isLt
    refine ⟨ix2 (y 1) (y 2), ?_, ?_⟩
    · rw [mem_rows2]; exact hy.2
    · obtain ⟨z, hz, h0, h1, h2⟩ := slot_emb (M := M) (h := h) (ix2 (y 1) (y 2))
      rw [hz]
      congr 1
      refine funext fun a => Fin.ext ?_
      match a with
      | ⟨0, _⟩ => exact h0.trans hy.1.symm
      | ⟨1, _⟩ => exact h1
      | ⟨2, _⟩ => exact h2

theorem map_whole (b : Ref sig .tc) (S : Finset b.ty.shape.Idx) : S.map (Memref.whole b : Memref sig .tc _ _ _).view.emb = S := by
  ext i
  simp only [Finset.mem_map]
  constructor
  · rintro ⟨x, hx, rfl⟩; exact hx
  · intro hi; exact ⟨i, hi, rfl⟩

/-- A window of a whole buffer of rank two covers its rows; -/
theorem set_sl2 {m : ℕ} (M : Memref sig .tc .vmem ⟨2, ![m, 4096]⟩ .f32) (o n k : ℕ) (hk : o + n = k) (h) :
    (sl2 M o n h).view.set = (rows2 m o k).map M.view.emb := by subst hk; exact sl2_set

/-! ## What a view reads -/

section Reads
variable {m n : ℕ} (X : Dev nD → S512x4096.Idx → Elt F .f32)

/-- A view of rank two reads rows `o, o + 1, …` of device `d`'s block. -/
def Reads (M : Memref sig .tc .vmem ⟨2, ![m, 4096]⟩ .f32) (f : M.view.ty.Contents (Elt F)) (d : Dev nD) (o : ℕ) : Prop :=
  ∀ y, M.view.read (Elt F) f y = xa X d (o + (y 0).val) (y 1).val
/-- Each slot of a view of rank three does. -/
def Reads3 (M : Memref sig .tc .vmem S2x256x4096 .f32) (f : M.view.ty.Contents (Elt F)) (d : Dev nD) (o : ℕ) : Prop :=
  ∀ y, M.view.read (Elt F) f y = xa X d (o + (y 1).val) (y 2).val

variable {X}

theorem Reads.sl2 {M : Memref sig .tc .vmem ⟨2, ![m, 4096]⟩ .f32} {f : M.view.ty.Contents (Elt F)} {d : Dev nD} {o : ℕ} (hf : Reads X M f d o)
    {o' : ℕ} {h} : Reads (m := n) X (sl2 M o' n h) f d (o + o') := by
  intro x
  obtain ⟨y, hy, h0, h1⟩ := sl2_emb (M := M) (h := h) x
  have e : (Views.sl2 M o' n h).view.read (Elt F) f x = M.view.read (Elt F) f y := by
    rw [View.read_apply, View.read_apply]; exact congrArg (fun i => cast _ (f i)) hy
  rw [e, hf y, h0, h1, Nat.add_assoc]

theorem Reads3.slot {M : Memref sig .tc .vmem S2x256x4096 .f32} {f : M.view.ty.Contents (Elt F)} {d : Dev nD} {o : ℕ} (hf : Reads3 X M f d o)
    {s : ℕ} {h} : Reads X (slot M s h) f d o := by
  intro x
  obtain ⟨y, hy, h0, h1, h2⟩ := slot_emb (M := M) (h := h) x
  have e : (Views.slot M s h).view.read (Elt F) f x = M.view.read (Elt F) f y := by
    rw [View.read_apply, View.read_apply]; exact congrArg (fun i => cast _ (f i)) hy
  rw [e, hf y, h1, h2]

/-- Two views that read the same rows read the same. -/
theorem Reads.eq {M M' : Memref sig .tc .vmem ⟨2, ![m, 4096]⟩ .f32} {f : M.view.ty.Contents (Elt F)} {f' : M'.view.ty.Contents (Elt F)}
    {d d' : Dev nD} {o o' : ℕ} (h : Reads X M f d o) (h' : Reads X M' f' d' o') (hd : d = d') (ho : o = o') :
    M.view.read (Elt F) f = M'.view.read (Elt F) f' := by
  subst hd; subst ho; funext y; rw [h y, h' y]

/-- What lands is the target's contents, on the target. -/
theorem landed {sp sp' : Space} {s : Shape} {e : EltTy} (v : View sig .tc sp s e) (v' : View sig .tc sp' s e)
    (f : v.ty.Contents (Elt F)) (g g' : v'.ty.Contents (Elt F)) (h : v.read (Elt F) f = v'.read (Elt F) g) :
    ∀ i ∈ v'.set, v'.write (Elt F) g' (v.read (Elt F) f) Finset.univ i = g i := by
  intro i hi
  rw [h, View.write_read_eq_piecewise, View.setOn_univ, Finset.piecewise_eq_of_mem _ _ _ hi]

end Reads

end Cert.KernelIdeal.Views

end
-- ==== Proof.Sched.lean ====
/- The protocol of the kernel. Nineteen transfers, a three-way barrier and four credits; which semaphore counts which of them
   in which round, who pays it, and what is handed over with it. -/
module

public import proofs.«01_k».proof.Proof.Views
public import Idealize.ShloMosaic.Lib.Pipeline.Launch
public import Idealize.ShloMosaic.Lib.Pipeline.Kit
public import Idealize.ShloMosaic.Lib.Tactic

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a round are named by at most three names. -/
abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Transfers, slots and their semaphores -/

/-- The transfers, in the order a device issues them. -/
inductive Tr | z1 | r1 | l1 | r2a | r2b | l2a | l2b | pr1 | pl1 | zta | ztb | zba | zbb | r3 | l3 | pr3 | pl3 | z3t | z3b
  deriving DecidableEq

def trs : List Tr := [.z1, .r1, .l1, .r2a, .r2b, .l2a, .l2b, .pr1, .pl1, .zta, .ztb, .zba, .zbb, .r3, .l3, .pr3, .pl3, .z3t, .z3b]

instance : Fintype Tr := ⟨⟨trs, by decide⟩, fun k => by cases k <;> decide⟩

/-- What a semaphore counts in one round: the barrier's three signals, one credit, a transfer's departure or its arrival. -/
inductive Slot | bar | crd (i : Fin 4) | snd (k : Tr) | rcv (k : Tr)
  deriving DecidableEq

def slots : List Slot := [.bar, .crd 0, .crd 1, .crd 2, .crd 3] ++ trs.map .snd ++ trs.map .rcv

theorem mem_slots (s : Slot) : s ∈ slots := by
  cases s with
  | bar => decide
  | crd i => revert i; decide
  | snd k => revert k; decide
  | rcv k => revert k; decide

instance : Fintype Slot := ⟨⟨slots, by decide⟩, mem_slots⟩

/-- The barrier semaphore. -/
abbrev barS : Sem sig := (SemArray.scalar (sig.barrier 0 rfl) : Sems sig S_).sem

/-- Entry `i` of an array of three DMA semaphores, -/
abbrev e3 (A : DmaSems sig S3) (i : ℕ) (h : ∀ a, (![i] : Fin 1 → ℕ) a + S1.size a ≤ S3.size a) : DmaSem sig :=
  ((A.slice (Rect.unit (s := S3) ![i] S1.size h)).squeeze S_ squeezes_S1_S_).sem
/-- and of two. -/
abbrev e2 (A : DmaSems sig S2) (i : ℕ) (h : ∀ a, (![i] : Fin 1 → ℕ) a + S1.size a ≤ S2.size a) : DmaSem sig :=
  ((A.slice (Rect.unit (s := S2) ![i] S1.size h)).squeeze S_ squeezes_S1_S_).sem

/-- The semaphore a transfer's departure is counted on, -/
def sS : Tr → DmaSem sig
  | .z1 => cc0_scratch17.sem
  | .r1 | .r3 => e3 cc0_scratch9 0 inb_S3_S1_0
  | .l1 | .l3 => e3 cc0_scratch11 0 inb_S3_S1_0
  | .r2a => e3 cc0_scratch9 1 inb_S3_S1_1
  | .r2b => e3 cc0_scratch9 2 inb_S3_S1_2
  | .l2a => e3 cc0_scratch11 1 inb_S3_S1_1
  | .l2b => e3 cc0_scratch11 2 inb_S3_S1_2
  | .pr1 => e2 cc0_scratch13 0 inb_S2_S1_0
  | .pl1 => e2 cc0_scratch15 0 inb_S2_S1_0
  | .zta => cc0_scratch19.sem
  | .ztb => cc0_scratch21.sem
  | .zba => cc0_scratch23.sem
  | .zbb => cc0_scratch25.sem
  | .pr3 => e2 cc0_scratch13 1 inb_S2_S1_1
  | .pl3 => e2 cc0_scratch15 1 inb_S2_S1_1
  | .z3t => cc0_scratch27.sem
  | .z3b => cc0_scratch29.sem
/-- and its arrival. -/
def rS : Tr → DmaSem sig
  | .z1 => cc0_scratch18.sem
  | .r1 | .r3 => e3 cc0_scratch10 0 inb_S3_S1_0
  | .l1 | .l3 => e3 cc0_scratch12 0 inb_S3_S1_0
  | .r2a => e3 cc0_scratch10 1 inb_S3_S1_1
  | .r2b => e3 cc0_scratch10 2 inb_S3_S1_2
  | .l2a => e3 cc0_scratch12 1 inb_S3_S1_1
  | .l2b => e3 cc0_scratch12 2 inb_S3_S1_2
  | .pr1 => e2 cc0_scratch14 0 inb_S2_S1_0
  | .pl1 => e2 cc0_scratch16 0 inb_S2_S1_0
  | .zta => cc0_scratch20.sem
  | .ztb => cc0_scratch22.sem
  | .zba => cc0_scratch24.sem
  | .zbb => cc0_scratch26.sem
  | .pr3 => e2 cc0_scratch14 1 inb_S2_S1_1
  | .pl3 => e2 cc0_scratch16 1 inb_S2_S1_1
  | .z3t => cc0_scratch28.sem
  | .z3b => cc0_scratch30.sem

/-- The credits' semaphores: for slot 0 of the right-going and of the left-going ring buffer, for the landing buffers of
    the right-going and the left-going relay. -/
def cS : Fin 4 → Sem sig
  | 0 => cc0_scratch31.sem
  | 1 => cc0_scratch32.sem
  | 2 => cc0_scratch33.sem
  | 3 => cc0_scratch34.sem

def semOf : Slot → SemLoc sig
  | .bar => .reg barS
  | .crd i => .reg (cS i)
  | .snd k => .dma (sS k)
  | .rcv k => .dma (rS k)

/-- The round: the third transfer of a ring uses the semaphores of the first again. -/
def rnd : Slot → ℕ
  | .snd .r3 | .snd .l3 | .rcv .r3 | .rcv .l3 => 1
  | _ => 0

/-- The slot counted on a semaphore in a round. -/
def slotOf (sm : SemLoc sig) (r : ℕ) : Option Slot := slots.find? fun s => decide (semOf s = sm ∧ rnd s = r)

theorem slotOf_sem : ∀ s : Slot, slotOf (semOf s) (rnd s) = some s := by decide +kernel

theorem slotOf_some {sm : SemLoc sig} {r : ℕ} {s : Slot} (h : slotOf sm r = some s) : semOf s = sm ∧ rnd s = r := by
  have := List.find?_some h; exact of_decide_eq_true this
theorem rnd_lt : ∀ s : Slot, rnd s < 2 := by decide
theorem slotOf_late (sm : SemLoc sig) {r : ℕ} (hr : 2 ≤ r) : slotOf sm r = none := by
  rcases h : slotOf sm r with _ | s
  · rfl
  · have := (slotOf_some h).2; have := rnd_lt s; omega

end Cert.KernelIdeal.Sched

end
-- ==== Proof.Protocol.lean ====
/- What each round of each semaphore hands over, as a schedule of duties, and the levels that order the waits. -/
module

public import proofs.«01_k».proof.Proof.Sched

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Shares and points-tos -/

/-- The half of a buffer's share lent to transfers, and the half kept to read; the kept half halved again. -/
abbrev hA : PosShare TreeShare := fullShare.left
abbrev hB : PosShare TreeShare := fullShare.right
abbrev hBA : PosShare TreeShare := hB.left
abbrev hBB : PosShare TreeShare := hB.right

/-- Elements `S` of device `c`'s copy of a buffer. -/
abbrev pt (c : Dev nD) (b : Ref sig .tc) (S : Finset (Idx ((c : Thread nD τ).loc b))) (q : PosShare TreeShare) (f : Buf (Elt F) ((c : Thread nD τ).loc b)) : sProp 𝕄 :=
  ((c : Thread nD τ).loc b) ↦[S]{q} f

/-- The same whatever they hold. -/
abbrev any (c : Dev nD) (b : Ref sig .tc) (S : Finset (Idx ((c : Thread nD τ).loc b))) : sProp 𝕄 :=
  iprop(∃ f : Buf (Elt F) ((c : Thread nD τ).loc b), pt c b S fullShare f)

abbrev bPair : Ref sig .tc := cc0_scratch0
abbrev bDt : Ref sig .tc := cc0_scratch1
abbrev bDb : Ref sig .tc := cc0_scratch2
abbrev bRt : Ref sig .tc := cc0_scratch3
abbrev bRb : Ref sig .tc := cc0_scratch4
abbrev bOr : Ref sig .tc := cc0_scratch5
abbrev bOl : Ref sig .tc := cc0_scratch6
abbrev bPr : Ref sig .tc := cc0_scratch7
abbrev bPl : Ref sig .tc := cc0_scratch8

/-- The credit of a transfer of `n` rows. -/
def cr (n : ℕ) : ℕ := RefSig.tileCredit (⟨2, ![n, 4096]⟩ : Shape) .f32

/-- The rows a transfer moves. -/
def nrows : Tr → ℕ
  | .z1 => 512
  | .r1 | .l1 | .pr1 | .pl1 | .r3 | .l3 => 256
  | .r2a | .r2b | .l2a | .l2b | .zta | .ztb | .zba | .zbb => 128
  | .pr3 | .pl3 => 168
  | .z3t | .z3b => 88

def amt (k : Tr) : ℕ := cr (nrows k)

theorem amt_pos : ∀ k, 0 < amt k := by decide +kernel

def amtS : Slot → ℕ
  | .bar | .crd _ => 1
  | .snd k | .rcv k => amt k

theorem amtS_pos (s : Slot) : 0 < amtS s := by
  cases s with
  | bar => exact Nat.one_pos
  | crd i => exact Nat.one_pos
  | snd k => exact amt_pos k
  | rcv k => exact amt_pos k

/-- The duties of a slot: the barrier has three, one of each neighbour. -/
def dutiesS : Slot → Finset (Fin 3)
  | .bar => Finset.univ
  | _ => {0}

/-- Whom a transfer goes to. -/
def dst : Tr → Dev nD → Dev nD
  | .z1 | .zta | .ztb | .zba | .zbb | .z3t | .z3b => pa
  | .r1 | .r2a | .r2b | .pr1 | .r3 | .pr3 => rt
  | .l1 | .l2a | .l2b | .pl1 | .l3 | .pl3 => lf

/-- Whom a credit goes to: the device that sends into the buffer it is for. -/
def cdst : Fin 4 → Dev nD → Dev nD
  | 0 | 2 => lf
  | 1 | 3 => rt

/-- A device's cell of a slot. -/
abbrev cell (c : Dev nD) (s : Slot) : GSem nD τ sig := ((c : Thread nD τ), semOf s)

section Payloads
variable (X : Dev nD → S512x4096.Idx → Elt F .f32)

/-- What a transfer's departure gives back: the lent share of what it read. -/
def sndPay (c : Dev nD) : Tr → sProp 𝕄
  | .z1 => pt c cc0_stg0_0 (rows2 512 0 512) hA (c2 X c 0)
  | .r1 => pt c cc0_stg0_0 (rows2 512 0 256) hBA (c2 X c 0)
  | .l1 => pt c cc0_stg0_0 (rows2 512 256 512) hBA (c2 X c 0)
  | .r2a => pt c bOr (rows3 0 0 128) hA (c3 X (lf c) 0)
  | .r2b => pt c bOr (rows3 0 128 256) hA (c3 X (lf c) 0)
  | .l2a => pt c bOl (rows3 0 0 128) hA (c3 X (rt c) 256)
  | .l2b => pt c bOl (rows3 0 128 256) hA (c3 X (rt c) 256)
  | .pr1 => pt c bPair (rows2 512 0 256) hA (c2 X (pa c) 0)
  | .pl1 => pt c bPair (rows2 512 256 512) hA (c2 X (pa c) 0)
  | .zta => pt c bOr (rows3 1 0 128) hA (c3 X (lf (lf c)) 0)
  | .ztb => pt c bOr (rows3 1 128 256) hA (c3 X (lf (lf c)) 0)
  | .zba => pt c bOl (rows3 1 0 128) hA (c3 X (rt (rt c)) 256)
  | .zbb => pt c bOl (rows3 1 128 256) hA (c3 X (rt (rt c)) 256)
  | .r3 => pt c bOr (rows3 1 0 256) hBA (c3 X (lf (lf c)) 0)
  | .l3 => pt c bOl (rows3 1 0 256) hBA (c3 X (rt (rt c)) 256)
  | .pr3 => pt c bDt (rows2 256 88 256) hA (c2 X (pa (lf (lf c))) 0)
  | .pl3 => pt c bDb (rows2 256 88 256) hA (c2 X (pa (rt (rt c))) 256)
  | .z3t => pt c bOr (rows3 0 0 88) hA (c3 X (lf (lf (lf c))) 0)
  | .z3b => pt c bOl (rows3 0 0 88) hA (c3 X (rt (rt (rt c))) 256)

/-- What a transfer's arrival gives: the rows it landed on, with what they hold. -/
def rcvPay (c : Dev nD) : Tr → sProp 𝕄
  | .z1 => pt c bPair (rows2 512 0 512) fullShare (c2 X (pa c) 0)
  | .r1 => pt c bOr (rows3 0 0 256) fullShare (c3 X (lf c) 0)
  | .l1 => pt c bOl (rows3 0 0 256) fullShare (c3 X (rt c) 256)
  | .r2a => pt c bOr (rows3 1 0 128) fullShare (c3 X (lf (lf c)) 0)
  | .r2b => pt c bOr (rows3 1 128 256) fullShare (c3 X (lf (lf c)) 0)
  | .l2a => pt c bOl (rows3 1 0 128) fullShare (c3 X (rt (rt c)) 256)
  | .l2b => pt c bOl (rows3 1 128 256) fullShare (c3 X (rt (rt c)) 256)
  | .pr1 => pt c bPr (rows2 256 0 256) fullShare (c2 X (pa (lf c)) 0)
  | .pl1 => pt c bPl (rows2 256 0 256) fullShare (c2 X (pa (rt c)) 256)
  | .zta => pt c bDt (rows2 256 0 128) fullShare (c2 X (pa (lf (lf c))) 0)
  | .ztb => pt c bDt (rows2 256 128 256) fullShare (c2 X (pa (lf (lf c))) 0)
  | .zba => pt c bDb (rows2 256 0 128) fullShare (c2 X (pa (rt (rt c))) 256)
  | .zbb => pt c bDb (rows2 256 128 256) fullShare (c2 X (pa (rt (rt c))) 256)
  | .r3 => pt c bOr (rows3 0 0 256) fullShare (c3 X (lf (lf (lf c))) 0)
  | .l3 => pt c bOl (rows3 0 0 256) fullShare (c3 X (rt (rt (rt c))) 256)
  | .pr3 => pt c bPr (rows2 256 88 256) fullShare (c2 X (pa (lf (lf (lf c)))) 0)
  | .pl3 => pt c bPl (rows2 256 88 256) fullShare (c2 X (pa (rt (rt (rt c)))) 256)
  | .z3t => pt c bRt (rows2 88 0 88) fullShare (c2 X (pa (lf (lf (lf c)))) 0)
  | .z3b => pt c bRb (rows2 88 0 88) fullShare (c2 X (pa (rt (rt (rt c)))) 256)

/-- What a neighbour's barrier signal hands over: its landing buffers. -/
def barPay (c : Dev nD) : Fin 3 → sProp 𝕄
  | 0 => iprop(any (rt c) bOr (rows3 0 0 256) ∗ any (rt c) bOr (rows3 1 0 256) ∗ any (rt c) bPr (rows2 256 0 256))
  | 1 => iprop(any (lf c) bOl (rows3 0 0 256) ∗ any (lf c) bOl (rows3 1 0 256) ∗ any (lf c) bPl (rows2 256 0 256))
  | 2 => iprop(any (pa c) bPair (rows2 512 0 512) ∗ any (pa c) bDt (rows2 256 0 256) ∗ any (pa c) bDb (rows2 256 0 256)
      ∗ any (pa c) bRt (rows2 88 0 88) ∗ any (pa c) bRb (rows2 88 0 88))

/-- What a credit hands over: the landing rows again, and that their semaphore is at its second round. -/
def crdPay (c : Dev nD) : Fin 4 → sProp 𝕄
  | 0 => iprop(any (rt c) bOr (rows3 0 0 256) ∗ reached ER (cell (rt c) (.rcv .r3)) 1)
  | 1 => iprop(any (lf c) bOl (rows3 0 0 256) ∗ reached ER (cell (lf c) (.rcv .l3)) 1)
  | 2 => any (rt c) bPr (rows2 256 88 256)
  | 3 => any (lf c) bPl (rows2 256 88 256)

def payS (c : Dev nD) : Slot → Fin 3 → sProp 𝕄
  | .bar, d => barPay c d
  | .crd i, _ => crdPay c i
  | .snd k, _ => sndPay X c k
  | .rcv k, _ => rcvPay X c k

omit [FloatOps F] in
instance sndPay_storable (c : Dev nD) (k : Tr) : BI.Storable (upEmb : UEmb _ 𝕄) (sndPay X c k) := by
  cases k <;> (dsimp only [sndPay]; infer_instance)
omit [FloatOps F] in
instance rcvPay_storable (c : Dev nD) (k : Tr) : BI.Storable (upEmb : UEmb _ 𝕄) (rcvPay X c k) := by
  cases k <;> (dsimp only [rcvPay]; infer_instance)
omit [FloatOps F] in
instance barPay_storable (c : Dev nD) (d : Fin 3) : BI.Storable (upEmb : UEmb _ 𝕄) (barPay (F := F) c d) := by
  fin_cases d <;> (dsimp only [barPay]; infer_instance)
omit [FloatOps F] in
instance crdPay_storable (c : Dev nD) (i : Fin 4) : BI.Storable (upEmb : UEmb _ 𝕄) (crdPay (F := F) c i) := by
  fin_cases i <;> (dsimp only [crdPay]; infer_instance)
omit [FloatOps F] in
instance payS_storable (c : Dev nD) (s : Slot) (d : Fin 3) : BI.Storable (upEmb : UEmb _ 𝕄) (payS X c s d) := by
  cases s <;> (dsimp only [payS]; infer_instance)

/-! ## The schedule -/

def Rd : Rounds.Schedule (GSem nD τ sig) (Fin 3) 𝕄 where
  duties g r := if g.1.2 = .tc then (match slotOf g.2 r with | none => ∅ | some s => dutiesS s) else ∅
  unitless _ := False
  amount g r _ := match slotOf g.2 r with | none => 1 | some s => amtS s
  payload g r d := match slotOf g.2 r with | none => iprop(emp) | some s => payS X g.1.1 s d
  amount_pos g r d _ := by
    split
    · exact Nat.one_pos
    · exact amtS_pos _

omit [FloatOps F] in
instance Rd_payload_storable (g : GSem nD τ sig) (r : ℕ) (d : Fin 3) :
    BI.Storable (upEmb : UEmb _ 𝕄) ((Rd (F := F) X).payload g r d) := by
  dsimp only [Rd]; split <;> infer_instance

omit [FloatOps F] in
theorem duties_at (c : Dev nD) (s : Slot) : (Rd (F := F) X).duties (cell c s) (rnd s) = dutiesS s := by
  dsimp only [Rd]; rw [if_pos rfl, slotOf_sem]
omit [FloatOps F] in
theorem amount_at (c : Dev nD) (s : Slot) (d : Fin 3) : (Rd (F := F) X).amount (cell c s) (rnd s) d = amtS s := by
  dsimp only [Rd]; rw [slotOf_sem]
omit [FloatOps F] in
theorem payload_at (c : Dev nD) (s : Slot) (d : Fin 3) : (Rd (F := F) X).payload (cell c s) (rnd s) d = payS X c s d := by
  dsimp only [Rd]; rw [slotOf_sem]
omit [FloatOps F] in
theorem duties_none (g : GSem nD τ sig) (r : ℕ) (h : slotOf g.2 r = none) : (Rd (F := F) X).duties g r = ∅ := by
  dsimp only [Rd]; rw [h]; split <;> rfl
omit [FloatOps F] in
theorem duties_late (g : GSem nD τ sig) : ∀ r, 2 ≤ r → (Rd (F := F) X).duties g r = ∅ := fun r hr =>
  duties_none X g r (slotOf_late g.2 hr)

/-- The units a slot's round expects. -/
def expS (s : Slot) : ℕ := (dutiesS s).card * amtS s

omit [FloatOps F] in
theorem expect_at (c : Dev nD) (s : Slot) : (Rd (F := F) X).expect (cell c s) (rnd s) = expS s := by
  unfold Schedule.expect Schedule.amountOf expS
  rw [duties_at, Finset.sum_congr rfl fun d _ => amount_at X c s d, Finset.sum_const, smul_eq_mul]

omit [FloatOps F] in
/-- What a wait for a whole round brings. -/
theorem rest_at (c : Dev nD) (s : Slot) :
    bigSep ((Rd (F := F) X).duties (cell c s) (rnd s) \ ∅) (fun d => (Rd (F := F) X).payload (cell c s) (rnd s) d) = bigSep (dutiesS s) (fun d => payS X c s d) := by
  rw [Finset.sdiff_empty, duties_at]
  exact bigSep_congr fun d _ => payload_at X c s d

end Payloads

end Cert.KernelIdeal.Sched

end
-- ==== Proof.Steps.lean ====
/- The debts of a device, in the order it pays them, and the levels that order the waits; and one rule for each kind of
   statement of the kernel: a signal, a wait, a transfer. -/
module

public import proofs.«01_k».proof.Proof.Protocol

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Debts and levels -/

/-- The three neighbours: left, right, partner. -/
def nb : Fin 3 → Dev nD → Dev nD
  | 0 => lf
  | 1 => rt
  | 2 => pa

/-- Which neighbour a transfer goes to. -/
def dir : Tr → Fin 3
  | .z1 | .zta | .ztb | .zba | .zbb | .z3t | .z3b => 2
  | .r1 | .r2a | .r2b | .pr1 | .r3 | .pr3 => 1
  | .l1 | .l2a | .l2b | .pl1 | .l3 | .pl3 => 0

theorem nb_dir (k : Tr) : nb (dir k) = dst k := by cases k <;> rfl

/-- What a device pays, in the order of its program: which slot, of which neighbour. -/
def pays : List (Slot × Fin 3) :=
  [(.bar, 0), (.bar, 1), (.bar, 2), (.rcv .z1, 2), (.rcv .r1, 1), (.rcv .l1, 0), (.rcv .r2a, 1), (.rcv .r2b, 1), (.rcv .l2a, 0), (.rcv .l2b, 0),
   (.rcv .pr1, 1), (.rcv .pl1, 0), (.rcv .zta, 2), (.rcv .ztb, 2), (.rcv .zba, 2), (.rcv .zbb, 2), (.crd 0, 0), (.crd 1, 1), (.rcv .r3, 1), (.rcv .l3, 0),
   (.crd 2, 0), (.crd 3, 1), (.rcv .pr3, 1), (.rcv .pl3, 0), (.rcv .z3t, 2), (.rcv .z3b, 2)]

/-- A slot's level: the place of its payment in the program; a departure, which no device owes, at the bottom. -/
def lev : Slot → ℕ
  | .bar => 1
  | .rcv .z1 => 2
  | .rcv .r1 => 3
  | .rcv .l1 => 4
  | .rcv .r2a => 5
  | .rcv .r2b => 6
  | .rcv .l2a => 7
  | .rcv .l2b => 8
  | .rcv .pr1 => 9
  | .rcv .pl1 => 10
  | .rcv .zta => 11
  | .rcv .ztb => 12
  | .rcv .zba => 13
  | .rcv .zbb => 14
  | .crd 0 => 15
  | .crd 1 => 16
  | .rcv .r3 => 17
  | .rcv .l3 => 18
  | .crd 2 => 19
  | .crd 3 => 20
  | .rcv .pr3 => 21
  | .rcv .pl3 => 22
  | .rcv .z3t => 23
  | .rcv .z3b => 24
  | .snd _ => 0

/-- What device `c` owes for a list of payments, the first payment the last summand. -/
def oweL (c : Dev nD) : List (Slot × Fin 3) → CellTallies nD τ sig ℕ
  | [] => 0
  | p :: l => oweL c l + tallyAt (cell (nb p.2 c) p.1) (rnd p.1) (amtS p.1)

theorem oweL_pos {c : Dev nD} {l : List (Slot × Fin 3)} {g : GSem nD τ sig} {u : ℕ} (h : 0 < oweL c l g u) :
    ∃ p ∈ l, g = cell (nb p.2 c) p.1 ∧ u = rnd p.1 := by
  induction l with
  | nil => exact absurd h (Nat.lt_irrefl 0)
  | cons p l ih =>
    unfold oweL at h
    rw [Pi.add_apply, Finsupp.add_apply, tallyAt_apply] at h
    by_cases hp : g = cell (nb p.2 c) p.1 ∧ u = rnd p.1
    · exact ⟨p, List.mem_cons_self, hp⟩
    · rw [if_neg hp, Nat.add_zero] at h
      obtain ⟨q, hq, e⟩ := ih h
      exact ⟨q, List.mem_cons_of_mem _ hq, e⟩

def L (g : GSem nD τ sig) : Finset ℕ := if g.1.2 = .tc then {0, 1} else ∅
def lv (g : GSem nD τ sig) (r : ℕ) : ℕ := match slotOf g.2 r with | none => 0 | some s => lev s

theorem L_of_ne (g : GSem nD τ sig) (h : g.1.2 ≠ .tc) : L g = ∅ := if_neg h
theorem L_cell (c : Dev nD) (s : Slot) : rnd s ∈ L (cell c s) := by
  unfold L; rw [if_pos rfl]; have := rnd_lt s
  rw [Finset.mem_insert, Finset.mem_singleton]; omega
theorem lv_cell (c : Dev nD) (s : Slot) : lv (cell c s) (rnd s) = lev s := by unfold lv; rw [slotOf_sem]

omit [FloatOps F] in
/-- A device may wait on a cell that lies below all it still owes. -/
theorem mayWait_of (c : Dev nD) (sm : SemLoc sig) (r : ℕ) (hr : r < 2) (n : ℕ) (hn : lv ((c : Thread nD τ), sm) r = n) (l : List (Slot × Fin 3))
    (hl : ∀ p ∈ l, n < lev p.1) : (levAts L lv : sProp 𝕄) ⊢ MayWait (c : Thread nD τ) sm r (oweL c l) :=
  MayOwe.of_cut (L := L) (lev := lv) n
    (fun p hp => by
      rw [Finset.mem_singleton.mp hp]; unfold L; rw [if_pos rfl, Finset.mem_insert, Finset.mem_singleton]
      show r = 0 ∨ r = 1
      omega)
    (fun g u hg => by obtain ⟨p, hp, rfl, rfl⟩ := oweL_pos hg; exact L_cell _ _)
    (fun p hp => by rw [Finset.mem_singleton.mp hp]; exact hn.le)
    (fun g u hg => by obtain ⟨p, hp, rfl, rfl⟩ := oweL_pos hg; rw [lv_cell]; exact hl p hp)

/-! ## The cells -/

/-- The slot of a semaphore's first round. -/
def bs : Slot → Slot
  | .snd .r3 => .snd .r1
  | .snd .l3 => .snd .l1
  | .rcv .r3 => .rcv .r1
  | .rcv .l3 => .rcv .l1
  | s => s

abbrev CellIx : Type := {s : Slot // rnd s = 0}

theorem rnd_bs (s : Slot) : rnd (bs s) = 0 := by
  cases s with
  | bar => rfl
  | crd i => rfl
  | snd k => cases k <;> rfl
  | rcv k => cases k <;> rfl
theorem sem_bs (s : Slot) : semOf (bs s) = semOf s := by
  cases s with
  | bar => rfl
  | crd i => rfl
  | snd k => cases k <;> rfl
  | rcv k => cases k <;> rfl
def ix (s : Slot) : CellIx := ⟨bs s, rnd_bs s⟩
theorem cell_ix (c : Dev nD) (s : Slot) : cell c (ix s).1 = cell c s := by show ((c : Thread nD τ), semOf (bs s)) = _; rw [sem_bs]

section Ctx
variable (X : Dev nD → S512x4096.Idx → Elt F .f32) (K : Dev nD × CellIx → ℕ)

/-- What all statements share: every cell's invariant, that every cell has reached its first round, and the levels. -/
def ctx : sProp 𝕄 :=
  iprop((bigSep Finset.univ fun ck : Dev nD × CellIx => iprop(cellInv ER (Rd X) (K ck) (cell ck.1 ck.2.1) ∗ reached ER (cell ck.1 ck.2.1) 0)) ∗ levAts L lv)

omit [FloatOps F] in
instance ctx_persistent : BI.Persistent (ctx X K) := by unfold ctx; infer_instance

omit [FloatOps F] in
theorem ctx_cell (c : Dev nD) (s : Slot) : ctx X K ⊢ iprop(cellInv ER (Rd X) (K (c, ix s)) (cell c s) ∗ reached ER (cell c s) 0) := by
  unfold ctx
  refine sep_elim_left.trans ((bigSep_elim (Finset.mem_univ (c, ix s))).trans ?_)
  show iprop(cellInv ER (Rd X) (K (c, ix s)) (cell c (ix s).1) ∗ reached ER (cell c (ix s).1) 0) ⊢ _
  rw [cell_ix]
omit [FloatOps F] in
theorem ctx_inv (c : Dev nD) (s : Slot) : ctx X K ⊢ cellInv ER (Rd X) (K (c, ix s)) (cell c s) :=
  (ctx_cell X K c s).trans sep_elim_left
omit [FloatOps F] in
theorem ctx_reached (c : Dev nD) (s : Slot) : ctx X K ⊢ reached ER (cell c s) 0 :=
  (ctx_cell X K c s).trans sep_elim_right
omit [FloatOps F] in
theorem ctx_lev : ctx X K ⊢ (levAts L lv : sProp 𝕄) := sep_elim_right

/-- What a device still owes. -/
def ow (c : Dev nD) (l : List (Slot × Fin 3)) : sProp 𝕄 := iprop(∃ W, owes (c : Thread nD τ) (oweL c l) W)

/-- A device's place at the start of a slot's round. -/
def at_ (c : Dev nD) (s : Slot) : sProp 𝕄 := atPos ER (cell c s) (rnd s) ∅ 0
/-- and past it. -/
def past (c : Dev nD) (s : Slot) : sProp 𝕄 := atPos ER (cell c s) (rnd s + 1) ∅ 0
/-- The credit a device waits with. -/
def crT (c : Dev nD) (s : Slot) : sProp 𝕄 := cred (tallyAt (cell c s) (rnd s) (expS s))
/-- The right to pay a duty of a slot. -/
def tok (c : Dev nD) (s : Slot) (d : Fin 3) : sProp 𝕄 := dutyTok ER (cell c s) (rnd s) d
/-- That a slot's cell has come to its round. -/
def rch (c : Dev nD) (s : Slot) : sProp 𝕄 := reached ER (cell c s) (rnd s)

omit [FloatOps F] in
instance rch_persistent (c : Dev nD) (s : Slot) : BI.Persistent (rch (F := F) c s) := by unfold rch; infer_instance

abbrev 𝒱₀ : Variants := Variants.none

/-- A wait for a slot's whole round brings what its duties hand over. -/
theorem step_wait {α : Type} {Q : α → sProp 𝕄} {k : PUnit → Prog (TpuEff nD τ sig (Elt F) Λ₀ .tc) α} (c : Dev nD) (s : Slot) {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ (semOf s) k' K)
    (hk : k' = expS s) (l : List (Slot × Fin 3)) (hl : ∀ p ∈ l, lev s < lev p.1) :
    iprop(ctx X K ∗ crT c s ∗ ow c l ∗ at_ c s)
      ⊢ iprop(((ow c l ∗ past c s ∗ reached ER (cell c s) (rnd s + 1) ∗ bigSep (dutiesS s) (fun d => payS X c s d)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hk
  unfold ow crT at_ past
  iintro ⟨#HC, Hc, ⟨%W, HO⟩, Hat⟩ Hk
  iapply (Rounds.wp_wait_rest_token 𝒱₀ ER (Rd X) (c : Thread nD τ) none (κ := K (c, ix s)) hw (Set.mem_univ _) (rnd s)
    (O := oweL c l) (W := W) (R := rnd s) (m := 0) (T := ∅) (by rw [Nat.zero_add]; exact (expect_at X c s).symm)) $$ [Hc HO Hat]
  · isplitr; · iapply (ctx_inv X K c s); iexact HC
    isplitl [Hc]; · iexact Hc
    isplitl [HO]; · iexact HO
    isplitr
    · iapply (mayWait_of c (semOf s) (rnd s) (rnd_lt s) (lev s) (lv_cell c s) l hl); iapply (ctx_lev X K); iexact HC
    iexact Hat
  iintro ⟨HO, Hat, Hr, Hpay⟩
  iapply Hk
  isplitl [HO]; · iexists _; iexact HO
  isplitl [Hat]; · iexact Hat
  isplitl [Hr]; · iexact Hr
  iapply (Entails.of_eq (rest_at X c s)); iexact Hpay

/-- A wait for a regular semaphore, of a slot's whole round. -/
theorem step_semWait {α : Type} {Q : α → sProp 𝕄} {k : PUnit → Prog (TpuEff nD τ sig (Elt F) Λ₀ .tc) α} (c : Dev nD) (s : Slot) {sm : Sem sig} {z : ℤ} (hs : SemLoc.reg sm = semOf s) (hz : z = ((expS s : ℕ) : ℤ))
    (l : List (Slot × Fin 3)) (hl : ∀ p ∈ l, lev s < lev p.1) :
    iprop(ctx X K ∗ crT c s ∗ ow c l ∗ at_ c s)
      ⊢ iprop(((ow c l ∗ past c s ∗ reached ER (cell c s) (rnd s + 1) ∗ bigSep (dutiesS s) (fun d => payS X c s d)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm z) k) Q) := by
  subst hz
  exact step_wait X K c s (fun K => by rw [← hs]; exact wpE_semWait_eq 𝒱₀ (c : Thread nD τ) none Set.univ K) rfl l hl

/-- A wait for a transfer, of a slot's whole round of one duty. -/
theorem step_dmaWait {α : Type} {Q : α → sProp 𝕄} {k : PUnit → Prog (TpuEff nD τ sig (Elt F) Λ₀ .tc) α} (c : Dev nD) (s : Slot) {sp sp' : Space} {sh : Shape} {e : EltTy} {sm : DmaSem sig} {src : Memref sig .tc sp sh e} {dm : Memref sig .tc sp' sh e}
    {h₁ : src.view.WordExact} {h₂ : dm.view.WordExact} (hs : SemLoc.dma sm = semOf s) (h0 : dutiesS s = {0}) (hk : dm.view.dmaCredit = amtS s)
    (l : List (Slot × Fin 3)) (hl : ∀ p ∈ l, lev s < lev p.1) :
    iprop(ctx X K ∗ crT c s ∗ ow c l ∗ at_ c s)
      ⊢ iprop(((ow c l ∗ past c s ∗ reached ER (cell c s) (rnd s + 1) ∗ payS X c s 0) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dm h₁ h₂) k) Q) := by
  have e : bigSep (dutiesS s) (fun d => payS X c s d) = payS X c s 0 := by rw [h0]; exact bigSep_singleton
  rw [← e]
  exact step_wait X K c s (fun K => by rw [← hs]; exact wpE_waitDma2_eq 𝒱₀ (c : Thread nD τ) none Set.univ K)
    (by rw [expS, h0, Finset.card_singleton, Nat.one_mul]; exact hk) l hl

/-- A signal pays one duty of one unit. -/
theorem step_signal {α : Type} {Q : α → sProp 𝕄} {k : PUnit → Prog (TpuEff nD τ sig (Elt F) Λ₀ .tc) α} (c : Dev nD) (s : Slot) (j : Fin 3) (d : Fin 3) (hd : d ∈ dutiesS s) {n : Dev nD} (hn : n = nb j c) {sm : Sem sig}
    (hs : SemLoc.reg sm = semOf s) (hu : amtS s = 1) {z : ℤ} (hz : z = ((1 : ℕ) : ℤ)) (l : List (Slot × Fin 3)) :
    iprop(ctx X K ∗ ow c ((s, j) :: l) ∗ tok (nb j c) s d ∗ payS X (nb j c) s d ∗ rch (nb j c) s)
      ⊢ iprop((ow c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) sm z) k) Q) := by
  subst hn; subst hz
  have ec : cell (nb j c) s = ((nb j c : Thread nD τ), SemLoc.reg sm) := by rw [hs]
  unfold ow tok rch
  iintro ⟨#HC, ⟨%W, HO⟩, Ht, Hp, #Hr⟩ Hk
  iapply (Rounds.wp_signal 𝒱₀ ER (Rd X) (c : Thread nD τ) none (dst := (nb j c : Thread nD τ)) (κ := K (nb j c, ix s)) (r := rnd s)
    (d := d) (by rw [← ec, duties_at]; exact hd) (by rw [← ec, amount_at]; exact hu) (rnd s) (oweL c l) (by rw [← ec, ← hu]) (W := W)) $$ [HO Ht Hp]
  · rw [← ec, payload_at]
    isplitr; · iapply (ctx_inv X K (nb j c) s); iexact HC
    isplitl [HO]; · iexact HO
    isplitl [Ht]; · iexact Ht
    isplitl [Hp]; · iexact Hp
    iexact Hr
  iintro HO
  iapply Hk; iexists _; iexact HO

/-- Where a transfer lands, before it does. -/
def land (c : Dev nD) : Tr → sProp 𝕄
  | .z1 => any c bPair (rows2 512 0 512)
  | .r1 | .r3 => any c bOr (rows3 0 0 256)
  | .l1 | .l3 => any c bOl (rows3 0 0 256)
  | .r2a => any c bOr (rows3 1 0 128)
  | .r2b => any c bOr (rows3 1 128 256)
  | .l2a => any c bOl (rows3 1 0 128)
  | .l2b => any c bOl (rows3 1 128 256)
  | .pr1 => any c bPr (rows2 256 0 256)
  | .pl1 => any c bPl (rows2 256 0 256)
  | .zta => any c bDt (rows2 256 0 128)
  | .ztb => any c bDt (rows2 256 128 256)
  | .zba => any c bDb (rows2 256 0 128)
  | .zbb => any c bDb (rows2 256 128 256)
  | .pr3 => any c bPr (rows2 256 88 256)
  | .pl3 => any c bPl (rows2 256 88 256)
  | .z3t => any c bRt (rows2 88 0 88)
  | .z3b => any c bRb (rows2 88 0 88)

/-- A transfer's source and target views are its schedule's. -/
structure Xfer (c : Dev nD) (k : Tr) {sh : Shape} (src dm : Memref sig .tc .vmem sh .f32) : Prop where
  ex : ∃ (q : PosShare TreeShare) (fs : Buf (Elt F) (src.view.loc (c : Thread nD τ))) (g : Buf (Elt F) (dm.view.loc (dst k c : Thread nD τ))),
    sndPay X c k = ((src.view.loc (c : Thread nD τ)) ↦[src.view.set]{q} fs)
    ∧ rcvPay X (dst k c) k = ((dm.view.loc (dst k c : Thread nD τ)) ↦[dm.view.set]{fullShare} g)
    ∧ src.view.read (Elt F) fs = dm.view.read (Elt F) g
  pre : land (F := F) (dst k c) k = iprop(∃ f : Buf (Elt F) (dm.view.loc (dst k c : Thread nD τ)), (dm.view.loc (dst k c : Thread nD τ)) ↦[dm.view.set]{fullShare} f)
  amount : dm.view.dmaCredit = amt k

/-- What the sending of a transfer takes besides its source. -/
def tx (c : Dev nD) (k : Tr) : sProp 𝕄 := iprop(tok c (.snd k) 0 ∗ tok (dst k c) (.rcv k) 0)

/-- A transfer: its source lent, its target's contents the source's rows. -/
theorem step_send {α : Type} {Q : α → sProp 𝕄} {k : PUnit → Prog (TpuEff nD τ sig (Elt F) Λ₀ .tc) α} (c : Dev nD) (k' : Tr) {sh : Shape} {src dm : Memref sig .tc .vmem sh .f32} (hx : Xfer (F := F) X c k' src dm) {n : Dev nD} (hn : n = dst k' c)
    {s₁ s₂ : DmaSem sig} (h₁ : s₁ = sS k') (h₂ : s₂ = rS k') {hsc : (dm : Memref sig (Dev.tc n : Thread nD τ).2.kind .vmem sh .f32).view.ref.isScScratch = false}
    {hsrc : src.view.WordExact} {hdst : dm.view.WordExact}
    {hsem : DmaTarget.Typed (nD := nD) (τ := τ) (p := .tc) .vmem (.dma s₂) (.remote (Dev.tc n : Thread nD τ) dm (.dma s₁) hsc)} (l : List (Slot × Fin 3)) {j : Fin 3} (hj : j = dir k') :
    iprop(ctx X K ∗ rch c (.snd k') ∗ rch (dst k' c) (.rcv k') ∗ sndPay X c k' ∗ land (dst k' c) k' ∗ ow c ((.rcv k', j) :: l) ∗ tx c k')
      ⊢ iprop(((crT c (.snd k') ∗ ow c l) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dm (.dma s₁) hsc) (.dma s₂) hsrc hdst hsem) k) Q) := by
  subst hn; subst h₁; subst h₂; subst hj
  obtain ⟨q, fs, g, e1, e2, e3⟩ := hx.ex
  have a1 : (Rd (F := F) X).amount ((c : Thread nD τ), .dma (sS k')) (rnd (.snd k')) 0 = amt k' := amount_at X c (.snd k') 0
  have a2 : (Rd (F := F) X).amount ((dst k' c : Thread nD τ), .dma (rS k')) (rnd (.rcv k')) 0 = amt k' := amount_at X (dst k' c) (.rcv k') 0
  have d1 : (0 : Fin 3) ∈ (Rd (F := F) X).duties ((c : Thread nD τ), .dma (sS k')) (rnd (.snd k')) := by
    rw [show ((c : Thread nD τ), SemLoc.dma (sS k')) = cell c (.snd k') from rfl, duties_at]; exact Finset.mem_singleton_self _
  have d2 : (0 : Fin 3) ∈ (Rd (F := F) X).duties ((dst k' c : Thread nD τ), .dma (rS k')) (rnd (.rcv k')) := by
    rw [show ((dst k' c : Thread nD τ), SemLoc.dma (rS k')) = cell (dst k' c) (.rcv k') from rfl, duties_at]; exact Finset.mem_singleton_self _
  rw [e1, hx.pre]
  unfold ow tx tok rch crT
  iintro ⟨#HC, #Hr1, #Hr2, Hs, ⟨%fd, Hd⟩, ⟨%W, HO⟩, Ht1, Ht2⟩ Hk
  iapply (Rounds.wp_send_pointsTo 𝒱₀ ER (Rd X) (c : Thread nD τ) none (κ₁ := K (c, ix (.snd k'))) (κ₂ := K (dst k' c, ix (.rcv k')))
    (r₁ := rnd (.snd k')) (r₂ := rnd (.rcv k')) (d₁ := 0) (d₂ := 0) (fd := fd) (fs := fs) d1 d2
    (rnd (.rcv k')) (rnd (.snd k')) (amt k') hx.amount a1 a2
    (oweL c l) (by rw [← nb_dir k']) (W := W)
    (by rw [show ((c : Thread nD τ), SemLoc.dma (sS k')) = cell c (.snd k') from rfl, payload_at]; exact Entails.of_eq e1.symm)
    (by rw [show ((dst k' c : Thread nD τ), SemLoc.dma (rS k')) = cell (dst k' c) (.rcv k') from rfl, payload_at]
        refine Entails.of_eq (Eq.trans ?_ e2.symm)
        exact pointsTo_congr (landed src.view dm.view fs g fd e3))) $$ [Hs Hd HO Ht1 Ht2]
  · isplitr; · iapply (ctx_inv X K c (.snd k')); iexact HC
    isplitr; · iapply (ctx_inv X K (dst k' c) (.rcv k')); iexact HC
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]
  · rw [show expS (.snd k') = amt k' by rw [expS]; exact Nat.one_mul _]; iexact Hc
  iexists _; iexact HO

end Ctx

end Cert.KernelIdeal.Sched

end
-- ==== Proof.Transfers.lean ====
/- The nineteen transfers: each one's views are the rows its schedule names, and what lands is what was sent. -/
module

public import proofs.«01_k».proof.Proof.Steps

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S512x4096.Idx → Elt F .f32)

/-- A transfer from rows of one device's block to where the same rows are held. -/
theorem xfer_of {c : Dev nD} {k : Tr} {n : ℕ} {src dm : Memref sig .tc .vmem ⟨2, ![n, 4096]⟩ .f32} (q : PosShare TreeShare)
    (fs : Buf (Elt F) (src.view.loc (c : Thread nD τ))) (g : Buf (Elt F) (dm.view.loc (dst k c : Thread nD τ)))
    {S : Finset (Idx (src.view.loc (c : Thread nD τ)))} {T : Finset (Idx (dm.view.loc (dst k c : Thread nD τ)))}
    (hS : src.view.set = S) (hT : dm.view.set = T)
    (e1 : sndPay X c k = ((src.view.loc (c : Thread nD τ)) ↦[S]{q} fs))
    (e2 : rcvPay X (dst k c) k = ((dm.view.loc (dst k c : Thread nD τ)) ↦[T]{fullShare} g))
    (e3 : land (F := F) (dst k c) k = iprop(∃ f : Buf (Elt F) (dm.view.loc (dst k c : Thread nD τ)), (dm.view.loc (dst k c : Thread nD τ)) ↦[T]{fullShare} f))
    {d d' : Dev nD} {o o' : ℕ} (rs : Reads X src fs d o) (rd : Reads X dm g d' o') (hd : d = d') (ho : o = o') (ha : dm.view.dmaCredit = amt k) :
    Xfer (F := F) X c k src dm := by
  subst hS; subst hT
  exact ⟨⟨q, fs, g, e1, e2, Reads.eq rs rd hd ho⟩, e3, ha⟩

/-- The buffers, whole. -/
abbrev pairM : Memref sig .tc .vmem S512x4096 .f32 := Memref.whole cc0_scratch0
abbrev dtM : Memref sig .tc .vmem S256x4096 .f32 := Memref.whole cc0_scratch1
abbrev dbM : Memref sig .tc .vmem S256x4096 .f32 := Memref.whole cc0_scratch2
abbrev rtM : Memref sig .tc .vmem S88x4096 .f32 := Memref.whole cc0_scratch3
abbrev rbM : Memref sig .tc .vmem S88x4096 .f32 := Memref.whole cc0_scratch4
abbrev orM : Memref sig .tc .vmem S2x256x4096 .f32 := Memref.whole cc0_scratch5
abbrev olM : Memref sig .tc .vmem S2x256x4096 .f32 := Memref.whole cc0_scratch6
abbrev prM : Memref sig .tc .vmem S256x4096 .f32 := Memref.whole cc0_scratch7
abbrev plM : Memref sig .tc .vmem S256x4096 .f32 := Memref.whole cc0_scratch8

variable {X} in
omit [FloatOps F] in
theorem rdOr (s o n : ℕ) {h h'} {d : Dev nD} {w : ℕ} : Reads X (sl2 (slot orM s h) o n h') (c3 X d w) d (w + o) :=
  Reads.sl2 (M := slot orM s h) (Reads3.slot (M := orM) (fun y => rfl))
variable {X} in
omit [FloatOps F] in
theorem rdOl (s o n : ℕ) {h h'} {d : Dev nD} {w : ℕ} : Reads X (sl2 (slot olM s h) o n h') (c3 X d w) d (w + o) :=
  Reads.sl2 (M := slot olM s h) (Reads3.slot (M := olM) (fun y => rfl))
theorem setOr (s o n k : ℕ) (hn : o + n ≤ 256) (hk : o + n = k) {h h'} : (sl2 (slot orM s h) o n h').view.set = rows3 s o k := by
  subst hk; exact (sl2_slot_set hn (M := orM)).trans (map_whole _ _)
theorem setOl (s o n k : ℕ) (hn : o + n ≤ 256) (hk : o + n = k) {h h'} : (sl2 (slot olM s h) o n h').view.set = rows3 s o k := by
  subst hk; exact (sl2_slot_set hn (M := olM)).trans (map_whole _ _)

theorem x_z1 (c : Dev nD) : Xfer (F := F) X c .z1 xM pairM :=
  xfer_of X hA (c2 X c 0) (c2 X (pa (pa c)) 0) (S := rows2 512 0 512) (T := rows2 512 0 512)
    (by rw [rows2_univ]; exact View.set_whole _) (by rw [rows2_univ]; exact View.set_whole _) rfl rfl rfl
    (fun _ => rfl) (fun _ => rfl) (by simp only [lf_rt, rt_lf, lf_pa, rt_pa, pa_pa]) (by decide) rfl
theorem x_r1 (c : Dev nD) : Xfer (F := F) X c .r1 (sl2 xM 0 256 (by decide)) (slot orM 0 (by decide)) :=
  xfer_of X hBA (c2 X c 0) (c3 X (lf (rt c)) 0) (S := rows2 512 0 256) (T := rows3 0 0 256)
    ((set_sl2 xM 0 256 256 rfl _).trans (map_whole _ _)) ((slot_set (M := orM)).trans (map_whole _ _)) rfl rfl rfl
    (Reads.sl2 (M := xM) (fun _ => rfl)) (Reads3.slot (M := orM) (fun _ => rfl)) (by simp only [lf_rt, rt_lf, lf_pa, rt_pa, pa_pa]) (by decide) rfl
theorem x_l1 (c : Dev nD) : Xfer (F := F) X c .l1 (sl2 xM 256 256 (by decide)) (slot olM 0 (by decide)) :=
  xfer_of X hBA (c2 X c 0) (c3 X (rt (lf c)) 256) (S := rows2 512 256 512) (T := rows3 0 0 256)
    ((set_sl2 xM 256 256 512 rfl _).trans (map_whole _ _)) ((slot_set (M := olM)).trans (map_whole _ _)) rfl rfl rfl
    (Reads.sl2 (M := xM) (fun _ => rfl)) (Reads3.slot (M := olM) (fun _ => rfl)) (by simp only [lf_rt, rt_lf, lf_pa, rt_pa, pa_pa]) (by decide) rfl
theorem x_r2a (c : Dev nD) : Xfer (F := F) X c .r2a (sl2 (slot orM 0 (by decide)) 0 128 (by decide)) (sl2 (slot orM 1 (by decide)) 0 128 (by decide)) :=
  xfer_of X hA (c3 X (lf c) 0) (c3 X (lf (lf (rt c))) 0) (S := rows3 0 0 128) (T := rows3 1 0 128)
    (setOr _ 0 128 128 (by decide) rfl) (setOr _ 0 128 128 (by decide) rfl) rfl rfl rfl
    (rdOr _ _ _) (rdOr _ _ _) (by simp only [lf_rt, rt_lf, lf_pa, rt_pa, pa_pa]) (by decide) rfl
theorem x_r2b (c : Dev nD) : Xfer (F := F) X c .r2b (sl2 (slot orM 0 (by decide)) 128 128 (by decide)) (sl2 (slot orM 1 (by decide)) 128 128 (by decide)) :=
  xfer_of X hA (c3 X (lf c) 0) (c3 X (lf (lf (rt c))) 0) (S := rows3 0 128 256) (T := rows3 1 128 256)
    (setOr _ 128 128 256 (by decide) rfl) (setOr _ 128 128 256 (by decide) rfl) rfl rfl rfl
    (rdOr _ _ _) (rdOr _ _ _) (by simp only [lf_rt, rt_lf, lf_pa, rt_pa, pa_pa]) (by decide) rfl
theorem x_l2a (c : Dev nD) : Xfer (F := F) X c .l2a (sl2 (slot olM 0 (by decide)) 0 128 (by decide)) (sl2 (slot olM 1 (by decide)) 0 128 (by decide)) :=
  xfer_of X hA (c3 X (rt c) 256) (c3 X (rt (rt (lf c))) 256) (S := rows3 0 0 128) (T := rows3 1 0 128)
    (setOl _ 0 128 128 (by decide) rfl) (setOl _ 0 128 128 (by decide) rfl) rfl rfl rfl
    (rdOl _ _ _) (rdOl _ _ _) (by simp only [lf_rt, rt_lf, lf_pa, rt_pa, pa_pa]) (by decide) rfl
theorem x_l2b (c : Dev nD) : Xfer (F := F) X c .l2b (sl2 (slot olM 0 (by decide)) 128 128 (by decide)) (sl2 (slot olM 1 (by decide)) 128 128 (by decide)) :=
  xfer_of X hA (c3 X (rt c) 256) (c3 X (rt (rt (lf c))) 256) (S := rows3 0 128 256) (T := rows3 1 128 256)
    (setOl _ 128 128 256 (by decide) rfl) (setOl _ 128 128 256 (by decide) rfl) rfl rfl rfl
    (rdOl _ _ _) (rdOl _ _ _) (by simp only [lf_rt, rt_lf, lf_pa, rt_pa, pa_pa]) (by decide) rfl
theorem x_pr1 (c : Dev nD) : Xfer (F := F) X c .pr1 (sl2 pairM 0 256 (by decide)) prM :=
  xfer_of X hA (c2 X (pa c) 0) (c2 X (pa (lf (rt c))) 0) (S := rows2 512 0 256) (T := rows2 256 0 256)
    ((set_sl2 pairM 0 256 256 rfl _).trans (map_whole _ _)) (by rw [rows2_univ]; exact View.set_whole _) rfl rfl rfl
    (Reads.sl2 (M := pairM) (fun _ => rfl)) (fun _ => rfl) (by simp only [lf_rt, rt_lf, lf_pa, rt_pa, pa_pa]) (by decide) rfl
theorem x_pl1 (c : Dev nD) : Xfer (F := F) X c .pl1 (sl2 pairM 256 256 (by decide)) plM :=
  xfer_of X hA (c2 X (pa c) 0) (c2 X (pa (rt (lf c))) 256) (S := rows2 512 256 512) (T := rows2 256 0 256)
    ((set_sl2 pairM 256 256 512 rfl _).trans (map_whole _ _)) (by rw [rows2_univ]; exact View.set_whole _) rfl rfl rfl
    (Reads.sl2 (M := pairM) (fun _ => rfl)) (fun _ => rfl) (by simp only [lf_rt, rt_lf, lf_pa, rt_pa, pa_pa]) (by decide) rfl
theorem x_zta (c : Dev nD) : Xfer (F := F) X c .zta (sl2 (slot orM 1 (by decide)) 0 128 (by decide)) (sl2 dtM 0 128 (by decide)) :=
  xfer_of X hA (c3 X (lf (lf c)) 0) (c2 X (pa (lf (lf (pa c)))) 0) (S := rows3 1 0 128) (T := rows2 256 0 128)
    (setOr _ 0 128 128 (by decide) rfl) ((set_sl2 dtM 0 128 128 rfl _).trans (map_whole _ _)) rfl rfl rfl
    (rdOr _ _ _) (Reads.sl2 (M := dtM) (fun _ => rfl)) (by simp only [lf_rt, rt_lf, lf_pa, rt_pa, pa_pa]) (by decide) rfl
theorem x_ztb (c : Dev nD) : Xfer (F := F) X c .ztb (sl2 (slot orM 1 (by decide)) 128 128 (by decide)) (sl2 dtM 128 128 (by decide)) :=
  xfer_of X hA (c3 X (lf (lf c)) 0) (c2 X (pa (lf (lf (pa c)))) 0) (S := rows3 1 128 256) (T := rows2 256 128 256)
    (setOr _ 128 128 256 (by decide) rfl) ((set_sl2 dtM 128 128 256 rfl _).trans (map_whole _ _)) rfl rfl rfl
    (rdOr _ _ _) (Reads.sl2 (M := dtM) (fun _ => rfl)) (by simp only [lf_rt, rt_lf, lf_pa, rt_pa, pa_pa]) (by decide) rfl
theorem x_zba (c : Dev nD) : Xfer (F := F) X c .zba (sl2 (slot olM 1 (by decide)) 0 128 (by decide)) (sl2 dbM 0 128 (by decide)) :=
  xfer_of X hA (c3 X (rt (rt c)) 256) (c2 X (pa (rt (rt (pa c)))) 256) (S := rows3 1 0 128) (T := rows2 256 0 128)
    (setOl _ 0 128 128 (by decide) rfl) ((set_sl2 dbM 0 128 128 rfl _).trans (map_whole _ _)) rfl rfl rfl
    (rdOl _ _ _) (Reads.sl2 (M := dbM) (fun _ => rfl)) (by simp only [lf_rt, rt_lf, lf_pa, rt_pa, pa_pa]) (by decide) rfl
theorem x_zbb (c : Dev nD) : Xfer (F := F) X c .zbb (sl2 (slot olM 1 (by decide)) 128 128 (by decide)) (sl2 dbM 128 128 (by decide)) :=
  xfer_of X hA (c3 X (rt (rt c)) 256) (c2 X (pa (rt (rt (pa c)))) 256) (S := rows3 1 128 256) (T := rows2 256 128 256)
    (setOl _ 128 128 256 (by decide) rfl) ((set_sl2 dbM 128 128 256 rfl _).trans (map_whole _ _)) rfl rfl rfl
    (rdOl _ _ _) (Reads.sl2 (M := dbM) (fun _ => rfl)) (by simp only [lf_rt, rt_lf, lf_pa, rt_pa, pa_pa]) (by decide) rfl
theorem x_r3 (c : Dev nD) : Xfer (F := F) X c .r3 (slot orM 1 (by decide)) (slot orM 0 (by decide)) :=
  xfer_of X hBA (c3 X (lf (lf c)) 0) (c3 X (lf (lf (lf (rt c)))) 0) (S := rows3 1 0 256) (T := rows3 0 0 256)
    ((slot_set (M := orM)).trans (map_whole _ _)) ((slot_set (M := orM)).trans (map_whole _ _)) rfl rfl rfl
    (Reads3.slot (M := orM) (fun _ => rfl)) (Reads3.slot (M := orM) (fun _ => rfl)) (by simp only [lf_rt, rt_lf, lf_pa, rt_pa, pa_pa]) (by decide) rfl
theorem x_l3 (c : Dev nD) : Xfer (F := F) X c .l3 (slot olM 1 (by decide)) (slot olM 0 (by decide)) :=
  xfer_of X hBA (c3 X (rt (rt c)) 256) (c3 X (rt (rt (rt (lf c)))) 256) (S := rows3 1 0 256) (T := rows3 0 0 256)
    ((slot_set (M := olM)).trans (map_whole _ _)) ((slot_set (M := olM)).trans (map_whole _ _)) rfl rfl rfl
    (Reads3.slot (M := olM) (fun _ => rfl)) (Reads3.slot (M := olM) (fun _ => rfl)) (by simp only [lf_rt, rt_lf, lf_pa, rt_pa, pa_pa]) (by decide) rfl
theorem x_pr3 (c : Dev nD) : Xfer (F := F) X c .pr3 (sl2 dtM 88 168 (by decide)) (sl2 prM 88 168 (by decide)) :=
  xfer_of X hA (c2 X (pa (lf (lf c))) 0) (c2 X (pa (lf (lf (lf (rt c))))) 0) (S := rows2 256 88 256) (T := rows2 256 88 256)
    ((set_sl2 dtM 88 168 256 rfl _).trans (map_whole _ _)) ((set_sl2 prM 88 168 256 rfl _).trans (map_whole _ _)) rfl rfl rfl
    (Reads.sl2 (M := dtM) (fun _ => rfl)) (Reads.sl2 (M := prM) (fun _ => rfl)) (by simp only [lf_rt, rt_lf, lf_pa, rt_pa, pa_pa]) (by decide) rfl
theorem x_pl3 (c : Dev nD) : Xfer (F := F) X c .pl3 (sl2 dbM 88 168 (by decide)) (sl2 plM 88 168 (by decide)) :=
  xfer_of X hA (c2 X (pa (rt (rt c))) 256) (c2 X (pa (rt (rt (rt (lf c))))) 256) (S := rows2 256 88 256) (T := rows2 256 88 256)
    ((set_sl2 dbM 88 168 256 rfl _).trans (map_whole _ _)) ((set_sl2 plM 88 168 256 rfl _).trans (map_whole _ _)) rfl rfl rfl
    (Reads.sl2 (M := dbM) (fun _ => rfl)) (Reads.sl2 (M := plM) (fun _ => rfl)) (by simp only [lf_rt, rt_lf, lf_pa, rt_pa, pa_pa]) (by decide) rfl
theorem x_z3t (c : Dev nD) : Xfer (F := F) X c .z3t (sl2 (slot orM 0 (by decide)) 0 88 (by decide)) rtM :=
  xfer_of X hA (c3 X (lf (lf (lf c))) 0) (c2 X (pa (lf (lf (lf (pa c))))) 0) (S := rows3 0 0 88) (T := rows2 88 0 88)
    (setOr _ 0 88 88 (by decide) rfl) (by rw [rows2_univ]; exact View.set_whole _) rfl rfl rfl
    (rdOr _ _ _) (fun _ => rfl) (by simp only [lf_rt, rt_lf, lf_pa, rt_pa, pa_pa]) (by decide) rfl
theorem x_z3b (c : Dev nD) : Xfer (F := F) X c .z3b (sl2 (slot olM 0 (by decide)) 0 88 (by decide)) rbM :=
  xfer_of X hA (c3 X (rt (rt (rt c))) 256) (c2 X (pa (rt (rt (rt (pa c))))) 256) (S := rows3 0 0 88) (T := rows2 88 0 88)
    (setOl _ 0 88 88 (by decide) rfl) (by rw [rows2_univ]; exact View.set_whole _) rfl rfl rfl
    (rdOl _ _ _) (fun _ => rfl) (by simp only [lf_rt, rt_lf, lf_pa, rt_pa, pa_pa]) (by decide) rfl

end Cert.KernelIdeal.Sched

end
-- ==== Proof.Output.lean ====
/- The output block, written in sixteen pieces, and the rules for the loads and the stores. -/
module

public import proofs.«01_k».proof.Proof.Transfers

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The pieces -/

/-- The rows a piece has, the device whose block they are of, and the row of that block they start at. -/
def pn : Fin 16 → ℕ
  | 0 | 1 => 512
  | 12 | 13 => 88
  | 14 | 15 => 168
  | _ => 256
def pd : Fin 16 → Dev nD → Dev nD
  | ⟨0, _⟩ => fun c => c
  | ⟨1, _⟩ => pa
  | ⟨2, _⟩ => fun c => lf c
  | ⟨3, _⟩ => fun c => rt c
  | ⟨4, _⟩ => fun c => lf (lf c)
  | ⟨5, _⟩ => fun c => rt (rt c)
  | ⟨6, _⟩ => fun c => pa (lf c)
  | ⟨7, _⟩ => fun c => pa (rt c)
  | ⟨8, _⟩ => fun c => pa (lf (lf c))
  | ⟨9, _⟩ => fun c => pa (rt (rt c))
  | ⟨10, _⟩ => fun c => lf (lf (lf c))
  | ⟨11, _⟩ => fun c => rt (rt (rt c))
  | ⟨12, _⟩ => fun c => pa (lf (lf (lf c)))
  | ⟨13, _⟩ => fun c => pa (rt (rt (rt c)))
  | ⟨14, _⟩ => fun c => pa (lf (lf (lf c)))
  | ⟨15, _⟩ => fun c => pa (rt (rt (rt c)))
  | ⟨n + 16, h⟩ => absurd h (by omega)
def po : Fin 16 → ℕ
  | 3 | 5 | 7 | 9 | 11 | 13 => 256
  | 14 => 88
  | 15 => 344
  | _ => 0
/-- The row of the output a piece starts at. -/
def poff (j : Fin 16) (c : Dev nD) : ℕ := 512 * (pd j c).val + po j

/-- Two pieces have no row in common, -/
theorem pieces_disj : ∀ (c : Dev nD) (j j' : Fin 16), j ≠ j' → poff j c + pn j ≤ poff j' c ∨ poff j' c + pn j' ≤ poff j c := by decide +kernel
/-- and together they have as many rows as the output. -/
theorem pieces_fit : ∀ (c : Dev nD) (j : Fin 16), poff j c + pn j ≤ 4096 := by decide +kernel
theorem pieces_sum : ∑ j : Fin 16, pn j = 4096 := by decide +kernel

/-- Every row of the output is in a piece. -/
theorem pieces_cover (c : Dev nD) (r : ℕ) (hr : r < 4096) : ∃ j : Fin 16, poff j c ≤ r ∧ r < poff j c + pn j := by
  have hcard : (Finset.univ.biUnion fun j : Fin 16 => Finset.Ico (poff j c) (poff j c + pn j)).card = 4096 := by
    rw [Finset.card_biUnion]
    · simp only [Nat.card_Ico, Nat.add_sub_cancel_left]; exact pieces_sum
    · intro j _ j' _ h
      rw [Function.onFun, Finset.disjoint_left]
      intro x hx hx'
      rw [Finset.mem_Ico] at hx hx'
      rcases pieces_disj c j j' h with h | h <;> omega
  have hsub : (Finset.univ.biUnion fun j : Fin 16 => Finset.Ico (poff j c) (poff j c + pn j)) ⊆ Finset.range 4096 := by
    intro x hx
    obtain ⟨j, _, hj⟩ := Finset.mem_biUnion.mp hx
    rw [Finset.mem_Ico] at hj
    have := pieces_fit c j
    rw [Finset.mem_range]; omega
  have he := Finset.eq_of_subset_of_card_le hsub (by rw [hcard, Finset.card_range])
  have hm : r ∈ Finset.univ.biUnion fun j : Fin 16 => Finset.Ico (poff j c) (poff j c + pn j) := by rw [he]; exact Finset.mem_range.mpr hr
  obtain ⟨j, _, hj⟩ := Finset.mem_biUnion.mp hm
  exact ⟨j, Finset.mem_Ico.mp hj⟩

section Pieces
variable (X : Dev nD → S512x4096.Idx → Elt F .f32) (Wt : Dev nD → S4096x256.Idx → Elt F .f32)

/-- A slot as a load of it gives it. -/
def c1 (X : Dev nD → S512x4096.Idx → Elt F .f32) (d : Dev nD) (o : ℕ) : S1x256x4096.Idx → Elt F .f32 :=
  fun i => xa X d (o + (i 1).val) (i 2).val

/-- What each piece holds. -/
def pv (c : Dev nD) : (j : Fin 16) → (⟨2, ![pn j, 256]⟩ : Shape).Idx → Elt F .f32
  | ⟨0, _⟩ => k0_pay1 (c2 X c 0) (Wt c)
  | ⟨1, _⟩ => k0_pay2 (c2 X (pa c) 0) (Wt c)
  | ⟨2, _⟩ => k0_pay3 (c1 X (lf c) 0) (Wt c)
  | ⟨3, _⟩ => k0_pay4 (c1 X (rt c) 256) (Wt c)
  | ⟨4, _⟩ => k0_pay5 (c1 X (lf (lf c)) 0) (Wt c)
  | ⟨5, _⟩ => k0_pay7 (k0_pay6 (c1 X (rt (rt c)) 256)) (Wt c)
  | ⟨6, _⟩ => k0_pay8 (c2 X (pa (lf c)) 0) (Wt c)
  | ⟨7, _⟩ => k0_pay9 (c2 X (pa (rt c)) 256) (Wt c)
  | ⟨8, _⟩ => k0_pay10 (c2 X (pa (lf (lf c))) 0) (Wt c)
  | ⟨9, _⟩ => k0_pay11 (c2 X (pa (rt (rt c))) 256) (Wt c)
  | ⟨10, _⟩ => k0_pay12 (c1 X (lf (lf (lf c))) 0) (Wt c)
  | ⟨11, _⟩ => k0_pay15 (k0_pay13 (c1 X (rt (rt (rt c))) 256)) (k0_pay14 (Wt c)) (constant S256x256 .f32 0x00000000#32)
  | ⟨12, _⟩ => k0_pay16 (c2 X (pa (lf (lf (lf c)))) 0) (Wt c)
  | ⟨13, _⟩ => k0_pay17 (c2 X (pa (rt (rt (rt c)))) 256) (Wt c)
  | ⟨14, _⟩ => k0_pay18 (c2 X (pa (lf (lf (lf c)))) 88) (Wt c)
  | ⟨15, _⟩ => k0_pay21 (k0_pay19 (c2 X (pa (rt (rt (rt c)))) 344) (Wt c)) (k0_pay20 (c2 X (pa (rt (rt (rt c)))) 344) (Wt c))
  | ⟨n + 16, h⟩ => absurd h (by omega)

/-- The output holds a piece. -/
def Has (c : Dev nD) (f : S4096x256.Idx → Elt F .f32) (j : Fin 16) : Prop :=
  ∀ (i : (⟨2, ![pn j, 256]⟩ : Shape).Idx) (y : S4096x256.Idx), (y 0).val = poff j c + (i 0).val → (y 1).val = (i 1).val → f y = pv X Wt c j i

/-- The index of two coordinates. -/
def pair {n m : ℕ} (a : Fin n) (b : Fin m) : (⟨2, ![n, m]⟩ : Shape).Idx
  | ⟨0, _⟩ => a
  | ⟨1, _⟩ => b

open Classical in
/-- The output, of its pieces. -/
def outAt (c : Dev nD) : S4096x256.Idx → Elt F .f32 := fun y =>
  if h : ∃ v, ∀ f : S4096x256.Idx → Elt F .f32, (∀ j, Has X Wt c f j) → f y = v then h.choose else c2 (n := 512) X c 0 (pair ⟨0, by decide⟩ ⟨0, by decide⟩)

/-- Contents that hold every piece are determined at every element. -/
theorem has_unique (c : Dev nD) (y : S4096x256.Idx) :
    ∃ (j : Fin 16) (i : (⟨2, ![pn j, 256]⟩ : Shape).Idx), (y 0).val = poff j c + (i 0).val ∧ (y 1).val = (i 1).val := by
  have h0 : (y 0).val < 4096 := (y 0).isLt
  obtain ⟨j, h1, h2⟩ := pieces_cover c (y 0).val h0
  exact ⟨j, pair ⟨(y 0).val - poff j c, by omega⟩ (y 1), by show _ = _ + ((y 0).val - poff j c); omega, rfl⟩

theorem out_of_has {c : Dev nD} {f : S4096x256.Idx → Elt F .f32} (h : ∀ j, Has X Wt c f j) : f = outAt X Wt c := by
  funext y
  obtain ⟨j, i, h0, h1⟩ := has_unique c y
  have hex : ∃ v, ∀ f : S4096x256.Idx → Elt F .f32, (∀ j, Has X Wt c f j) → f y = v := ⟨pv X Wt c j i, fun f hf => hf j i y h0 h1⟩
  unfold outAt
  rw [dif_pos hex]
  exact hex.choose_spec f h

/-- The output block with the pieces written so far. -/
def outP (c : Dev nD) (l : List (Fin 16)) : sProp 𝕄 :=
  iprop(∃ f : Buf (Elt F) ((c : Thread nD τ).loc cc0_stg2_0), ⌜∀ j ∈ l, Has X Wt c f j⌝ ∗ pt c cc0_stg2_0 Finset.univ fullShare f)

/-- The weights. -/
def wP (c : Dev nD) : sProp 𝕄 := pt c cc0_stg1_0 Finset.univ fullShare (Wt c)

/-- The rows a store covers. -/
theorem store_set {n : ℕ} {o : Fin 2 → ℕ} {inb : ∀ a, o a + (⟨2, ![n, 256]⟩ : Shape).size a ≤ S4096x256.size a} (y : S4096x256.Idx) :
    y ∈ (oM.access (Rect.unit (s := S4096x256) o (⟨2, ![n, 256]⟩ : Shape).size inb)).set → o 0 ≤ (y 0).val ∧ (y 0).val < o 0 + n := by
  intro h
  obtain ⟨x, _, rfl⟩ := Finset.mem_map.mp h
  have hx : (x 0).val < n := (x 0).isLt
  have e : (((oM.access (Rect.unit (s := S4096x256) o (⟨2, ![n, 256]⟩ : Shape).size inb)).emb x) 0).val = o 0 + 1 * (x 0).val := rfl
  rw [e]; omega

theorem has_write {c : Dev nD} {f : S4096x256.Idx → Elt F .f32} {l : List (Fin 16)} (hf : ∀ j ∈ l, Has X Wt c f j) (j : Fin 16) (hj : j ∉ l)
    {o : Fin 2 → ℕ} {inb : ∀ a, o a + (⟨2, ![pn j, 256]⟩ : Shape).size a ≤ S4096x256.size a} (ho : o = ![poff j c, 0]) :
    ∀ j' ∈ j :: l, Has X Wt c ((oM.access (Rect.unit (s := S4096x256) o (⟨2, ![pn j, 256]⟩ : Shape).size inb)).write (Elt F) f (pv X Wt c j) Finset.univ) j' := by
  subst ho
  intro j' hj' i y h0 h1
  rcases List.mem_cons.mp hj' with rfl | hl
  · have hy : y = (oM.access (Rect.unit (s := S4096x256) ![poff j' c, 0] (⟨2, ![pn j', 256]⟩ : Shape).size inb)).emb i := by
      refine funext fun a => Fin.ext ?_
      match a with
      | ⟨0, _⟩ => show (y 0).val = poff j' c + 1 * (i 0).val; omega
      | ⟨1, _⟩ => show (y 1).val = 0 + 1 * (i 1).val; omega
    rw [hy, View.write_emb_of_mem _ _ (Finset.mem_univ _)]
    rfl
  · have hne : j ≠ j' := fun e => hj (e ▸ hl)
    have hi : (i 0).val < pn j' := (i 0).isLt
    rw [View.write_of_not_mem]
    · exact hf j' hl i y h0 h1
    · intro hm
      have hb : poff j c ≤ (y 0).val ∧ (y 0).val < poff j c + pn j := store_set (n := pn j) y hm
      rcases pieces_disj c j j' hne with h | h <;> omega

/-- Loading elements that are held, at any share. -/
theorem step_load {α : Type} {Q : α → sProp 𝕄} (c : Dev nD) {s : Shape} {m : Memref sig .tc .vmem s .f32} {r : LoadRect s} {hl : m.view.LoadsAt r}
    {k : (r.shape.Idx → Elt F .f32) → Prog (TpuEff nD τ sig (Elt F) Λ₀ .tc) α} {S : Finset (Idx (m.view.loc (c : Thread nD τ)))} {q : PosShare TreeShare}
    {f : Buf (Elt F) (m.view.loc (c : Thread nD τ))} (hS : m.view.setOn r.set ⊆ S) {v : r.shape.Idx → Elt F .f32} (hv : m.view.readAt (Elt F) r f = v) :
    (((m.view.loc (c : Thread nD τ)) ↦[S]{q} f) : sProp 𝕄) ⊢ iprop((((m.view.loc (c : Thread nD τ)) ↦[S]{q} f) -∗ wp frame (wpE (defs₀ (F := F)) 𝒱₀ (c : Thread nD τ) none) Set.univ (k v) Q)
      -∗ wp frame (wpE (defs₀ (F := F)) 𝒱₀ (c : Thread nD τ) none) Set.univ (.op (.load m r hl) k) Q) := by
  subst hv
  exact wp_load 𝒱₀ (c : Thread nD τ) none Set.univ hS

/-- Loading the weights whole. -/
theorem step_loadW {α : Type} {Q : α → sProp 𝕄} {k : (S4096x256.Idx → Elt F .f32) → Prog (TpuEff nD τ sig (Elt F) Λ₀ .tc) α} (c : Dev nD)
    {inb : ∀ a, (![0, 0] : Fin 2 → ℕ) a + S4096x256.size a ≤ S4096x256.size a} {hl : wM.view.LoadsAt (Rect.unit (s := S4096x256) ![0, 0] S4096x256.size inb).toLoadRect} :
    wP Wt c ⊢ iprop((wP Wt c -∗ wp frame (wpE (defs₀ (F := F)) 𝒱₀ (c : Thread nD τ) none) Set.univ (k (Wt c)) Q)
      -∗ wp frame (wpE (defs₀ (F := F)) 𝒱₀ (c : Thread nD τ) none) Set.univ (.op (.load wM (Rect.unit (s := S4096x256) ![0, 0] S4096x256.size inb).toLoadRect hl) k) Q) := by
  have hz : (![0, 0] : Fin 2 → ℕ) = fun _ => 0 := by decide
  have e := Memref.readAt_unit_zero (Elt F) cc0_stg1_0 hz inb (Wt c)
  unfold wP
  have h := step_load (F := F) (Q := Q) c (m := wM) (r := (Rect.unit (s := S4096x256) ![0, 0] S4096x256.size inb).toLoadRect) (hl := hl) (k := k)
    (S := Finset.univ) (q := fullShare) (f := Wt c) (Finset.subset_univ _) (v := Wt c) e
  exact h

/-- Writing a piece: the rows are read first, and what is read is not used. -/
theorem step_put {α : Type} {Q : α → sProp 𝕄} (c : Dev nD) (j : Fin 16) (l : List (Fin 16)) (hj : j ∉ l) {n : ℕ} (hn : n = pn j)
    {o : Fin 2 → ℕ} {inb : ∀ a, o a + (⟨2, ![n, 256]⟩ : Shape).size a ≤ S4096x256.size a} (ho : o = ![poff j c, 0])
    {r : LoadRect S4096x256} {hl : oM.view.LoadsAt r} {w : (⟨2, ![n, 256]⟩ : Shape).Idx → Elt F .f32} (hw : HEq w (pv X Wt c j))
    {hx : (oM.access (Rect.unit (s := S4096x256) o (⟨2, ![n, 256]⟩ : Shape).size inb)).Stores Finset.univ}
    {hm : (Finset.univ : Finset (Rect.unit (s := S4096x256) o (⟨2, ![n, 256]⟩ : Shape).size inb).shape.Idx) = Finset.univ ∨ ∀ a, (Rect.unit (s := S4096x256) o (⟨2, ![n, 256]⟩ : Shape).size inb).stride a = 1}
    {k : PUnit → Prog (TpuEff nD τ sig (Elt F) Λ₀ .tc) α} :
    outP X Wt c l ⊢ iprop((outP X Wt c (j :: l) -∗ wp frame (wpE (defs₀ (F := F)) 𝒱₀ (c : Thread nD τ) none) Set.univ (k ⟨⟩) Q)
      -∗ wp frame (wpE (defs₀ (F := F)) 𝒱₀ (c : Thread nD τ) none) Set.univ
          (.op (.load oM r hl) fun _ => .op (.store oM (Rect.unit (s := S4096x256) o (⟨2, ![n, 256]⟩ : Shape).size inb) w Finset.univ hx hm) k) Q) := by
  subst hn
  have hw' := eq_of_heq hw
  subst hw'
  unfold outP
  iintro ⟨%f, %hf, Ho⟩ Hk
  iapply (wp_load 𝒱₀ (c : Thread nD τ) none Set.univ (m := oM) (Finset.subset_univ _)) $$ Ho; iintro Ho
  iapply (wp_store 𝒱₀ (c : Thread nD τ) none Set.univ (m := oM) (r := Rect.unit (s := S4096x256) o (⟨2, ![pn j, 256]⟩ : Shape).size inb) (Mk := Finset.univ) (Finset.subset_univ _)) $$ Ho; iintro Ho
  iapply Hk
  iexists (oM.access (Rect.unit (s := S4096x256) o (⟨2, ![pn j, 256]⟩ : Shape).size inb)).write (Elt F) f (pv X Wt c j) Finset.univ
  isplitr
  · ipureintro; exact has_write X Wt hf j hj ho
  iexact Ho

end Pieces

end Cert.KernelIdeal.Sched

end
-- ==== Proof.Moves.lean ====
/- How the buffers' rows and shares are cut and joined, and each kind of statement with what a device holds before and after. -/
module

public import proofs.«01_k».proof.Proof.Output

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cutting and joining rows -/

section Cut
variable {c : Dev nD} {b : Ref sig .tc}

omit [FloatOps F] in
theorem pt_halves (S : Finset (Idx ((c : Thread nD τ).loc b))) (f : Buf (Elt F) ((c : Thread nD τ).loc b)) :
    (pt c b S fullShare f : sProp 𝕄) ⊣⊢ iprop(pt c b S hA f ∗ pt c b S hB f) := pointsTo_share (PosShare.mem_left_op_right fullShare)
omit [FloatOps F] in
theorem pt_halvesB (S : Finset (Idx ((c : Thread nD τ).loc b))) (f : Buf (Elt F) ((c : Thread nD τ).loc b)) :
    (pt c b S hB f : sProp 𝕄) ⊣⊢ iprop(pt c b S hBA f ∗ pt c b S hBB f) := pointsTo_share (PosShare.mem_left_op_right hB)
omit [FloatOps F] in
theorem pt_cut {S T U : Finset (Idx ((c : Thread nD τ).loc b))} (hU : S ∪ T = U) (hd : Disjoint S T) (q : PosShare TreeShare) (f : Buf (Elt F) ((c : Thread nD τ).loc b)) :
    (pt c b U q f : sProp 𝕄) ⊣⊢ iprop(pt c b S q f ∗ pt c b T q f) := by subst hU; exact pointsTo_union hd
omit [FloatOps F] in
theorem any_cut {S T U : Finset (Idx ((c : Thread nD τ).loc b))} (hU : S ∪ T = U) (hd : Disjoint S T) :
    (any (F := F) c b U : sProp 𝕄) ⊢ iprop(any c b S ∗ any c b T) := by
  iintro ⟨%f, H⟩
  ihave H := (pt_cut hU hd fullShare f).1 $$ H
  icases H with ⟨H1, H2⟩
  isplitl [H1]; · iexists f; iexact H1
  iexists f; iexact H2
omit [FloatOps F] in
theorem any_join {S T U : Finset (Idx ((c : Thread nD τ).loc b))} (hU : S ∪ T = U) (hd : Disjoint S T) :
    iprop(any (F := F) c b S ∗ any c b T) ⊢ (any (F := F) c b U : sProp 𝕄) := by
  subst hU
  iintro ⟨⟨%f, H1⟩, %g, H2⟩
  iexists _
  iapply (pointsTo_join hd)
  isplitl [H1]; · iexact H1
  iexact H2
omit [FloatOps F] in
theorem any_of {S : Finset (Idx ((c : Thread nD τ).loc b))} {f : Buf (Elt F) ((c : Thread nD τ).loc b)} :
    (pt c b S fullShare f : sProp 𝕄) ⊢ any c b S := by iintro H; iexists f; iexact H
end Cut

section Splits
variable (X : Dev nD → S512x4096.Idx → Elt F .f32) (c : Dev nD)

/-- The share of a device's own rows that stays to be read. -/
def xR : sProp 𝕄 := pt c cc0_stg0_0 (rows2 512 0 512) hBB (c2 X c 0)
/-- What stays of the ring buffers' first slots, while their halves travel on, -/
def r0R : sProp 𝕄 := pt c bOr (rows3 0 0 256) hB (c3 X (lf c) 0)
def l0R : sProp 𝕄 := pt c bOl (rows3 0 0 256) hB (c3 X (rt c) 256)
/-- of the partner's rows, -/
def pR : sProp 𝕄 := pt c bPair (rows2 512 0 512) hB (c2 X (pa c) 0)
/-- of the second slots, in halves and then whole, -/
def raR : sProp 𝕄 := pt c bOr (rows3 1 0 128) hB (c3 X (lf (lf c)) 0)
def rbR : sProp 𝕄 := pt c bOr (rows3 1 128 256) hB (c3 X (lf (lf c)) 0)
def laR : sProp 𝕄 := pt c bOl (rows3 1 0 128) hB (c3 X (rt (rt c)) 256)
def lbR : sProp 𝕄 := pt c bOl (rows3 1 128 256) hB (c3 X (rt (rt c)) 256)
def r1R : sProp 𝕄 := pt c bOr (rows3 1 0 256) hBB (c3 X (lf (lf c)) 0)
def l1R : sProp 𝕄 := pt c bOl (rows3 1 0 256) hBB (c3 X (rt (rt c)) 256)
/-- of the partner's second rows, -/
def dtR : sProp 𝕄 := iprop(pt c bDt (rows2 256 0 88) hA (c2 X (pa (lf (lf c))) 0) ∗ pt c bDt (rows2 256 0 256) hB (c2 X (pa (lf (lf c))) 0))
def dbR : sProp 𝕄 := iprop(pt c bDb (rows2 256 0 88) hA (c2 X (pa (rt (rt c))) 256) ∗ pt c bDb (rows2 256 0 256) hB (c2 X (pa (rt (rt c))) 256))
/-- and of the first slots the second time. -/
def r3R : sProp 𝕄 := iprop(pt c bOr (rows3 0 88 256) hA (c3 X (lf (lf (lf c))) 0) ∗ pt c bOr (rows3 0 0 256) hB (c3 X (lf (lf (lf c))) 0))
def l3R : sProp 𝕄 := iprop(pt c bOl (rows3 0 88 256) hA (c3 X (rt (rt (rt c))) 256) ∗ pt c bOl (rows3 0 0 256) hB (c3 X (rt (rt (rt c))) 256))

/-- One share lent for all of the rows, and half of the other for both halves of them. -/
theorem sp_x : (pt c cc0_stg0_0 (rows2 512 0 512) fullShare (c2 X c 0) : sProp 𝕄) ⊣⊢ iprop(sndPay X c .z1 ∗ (sndPay X c .r1 ∗ sndPay X c .l1) ∗ xR X c) := by
  refine (pt_halves _ _).trans ⟨sep_mono .rfl ?_, sep_mono .rfl ?_⟩
  · exact (pt_halvesB _ _).1.trans (sep_mono (pt_cut (rows2_union (by decide) (by decide)) rows2_disj _ _).1 .rfl)
  · exact (sep_mono (pt_cut (rows2_union (by decide) (by decide)) rows2_disj _ _).2 .rfl).trans (pt_halvesB _ _).2

theorem cut2 {b : Ref sig .tc} {S T U : Finset (Idx ((c : Thread nD τ).loc b))} (hU : S ∪ T = U) (hd : Disjoint S T) (f : Buf (Elt F) ((c : Thread nD τ).loc b)) :
    (pt c b U fullShare f : sProp 𝕄) ⊣⊢ iprop((pt c b S hA f ∗ pt c b T hA f) ∗ pt c b U hB f) :=
  (pt_halves _ _).trans ⟨sep_mono (pt_cut hU hd _ _).1 .rfl, sep_mono (pt_cut hU hd _ _).2 .rfl⟩

theorem sp_r1 : rcvPay X c .r1 ⊣⊢ iprop((sndPay X c .r2a ∗ sndPay X c .r2b) ∗ r0R X c) := cut2 c (rows3_union (by decide) (by decide)) rows3_disj _
theorem sp_l1 : rcvPay X c .l1 ⊣⊢ iprop((sndPay X c .l2a ∗ sndPay X c .l2b) ∗ l0R X c) := cut2 c (rows3_union (by decide) (by decide)) rows3_disj _
theorem sp_z1 : rcvPay X c .z1 ⊣⊢ iprop((sndPay X c .pr1 ∗ sndPay X c .pl1) ∗ pR X c) := cut2 c (rows2_union (by decide) (by decide)) rows2_disj _
theorem sp_r2a : rcvPay X c .r2a ⊣⊢ iprop(sndPay X c .zta ∗ raR X c) := pt_halves _ _
theorem sp_r2b : rcvPay X c .r2b ⊣⊢ iprop(sndPay X c .ztb ∗ rbR X c) := pt_halves _ _
theorem sp_l2a : rcvPay X c .l2a ⊣⊢ iprop(sndPay X c .zba ∗ laR X c) := pt_halves _ _
theorem sp_l2b : rcvPay X c .l2b ⊣⊢ iprop(sndPay X c .zbb ∗ lbR X c) := pt_halves _ _
theorem sp_r2 : iprop(raR X c ∗ rbR X c) ⊣⊢ iprop(sndPay X c .r3 ∗ r1R X c) :=
  ⟨(pt_cut (c := c) (b := bOr) (rows3_union (by decide) (by decide)) rows3_disj hB (c3 X (lf (lf c)) 0)).2.trans (pt_halvesB _ _).1,
    (pt_halvesB _ _).2.trans (pt_cut (c := c) (b := bOr) (rows3_union (by decide) (by decide)) rows3_disj hB (c3 X (lf (lf c)) 0)).1⟩
theorem sp_l2 : iprop(laR X c ∗ lbR X c) ⊣⊢ iprop(sndPay X c .l3 ∗ l1R X c) :=
  ⟨(pt_cut (c := c) (b := bOl) (rows3_union (by decide) (by decide)) rows3_disj hB (c3 X (rt (rt c)) 256)).2.trans (pt_halvesB _ _).1,
    (pt_halvesB _ _).2.trans (pt_cut (c := c) (b := bOl) (rows3_union (by decide) (by decide)) rows3_disj hB (c3 X (rt (rt c)) 256)).1⟩

/-- Of two parts joined, rows `0` to `88` kept at the lent share, the rest lent. -/
theorem cut3 {b : Ref sig .tc} {S T U V W : Finset (Idx ((c : Thread nD τ).loc b))} (hU : S ∪ T = U) (hd : Disjoint S T) (hW : V ∪ W = U) (hd' : Disjoint V W)
    (f : Buf (Elt F) ((c : Thread nD τ).loc b)) :
    iprop(pt c b S fullShare f ∗ pt c b T fullShare f) ⊣⊢ (iprop(pt c b W hA f ∗ pt c b V hA f ∗ pt c b U hB f) : sProp 𝕄) := by
  have h1 := pt_cut (F := F) (c := c) hU hd fullShare f
  have h2 := cut2 (F := F) c hW hd' f
  constructor
  · refine h1.2.trans (h2.1.trans ?_)
    iintro ⟨⟨A, B⟩, C⟩
    isplitl [B]; · iexact B
    isplitl [A]; · iexact A
    iexact C
  · refine BIBase.Entails.trans ?_ (h2.2.trans h1.1)
    iintro ⟨B, A, C⟩
    isplitr [C]
    · isplitl [A]; · iexact A
      iexact B
    iexact C
theorem sp_dt : iprop(rcvPay X c .zta ∗ rcvPay X c .ztb) ⊣⊢ iprop(sndPay X c .pr3 ∗ dtR X c) :=
  cut3 c (rows2_union (by decide) (by decide)) rows2_disj (rows2_union (by decide) (by decide)) rows2_disj _
theorem sp_db : iprop(rcvPay X c .zba ∗ rcvPay X c .zbb) ⊣⊢ iprop(sndPay X c .pl3 ∗ dbR X c) :=
  cut3 c (rows2_union (by decide) (by decide)) rows2_disj (rows2_union (by decide) (by decide)) rows2_disj _
theorem cut4 {b : Ref sig .tc} {U V W : Finset (Idx ((c : Thread nD τ).loc b))} (hW : V ∪ W = U) (hd' : Disjoint V W) (f : Buf (Elt F) ((c : Thread nD τ).loc b)) :
    (pt c b U fullShare f : sProp 𝕄) ⊣⊢ iprop(pt c b V hA f ∗ pt c b W hA f ∗ pt c b U hB f) := by
  have h2 := cut2 (F := F) c hW hd' f
  constructor
  · refine h2.1.trans ?_
    iintro ⟨⟨A, B⟩, C⟩
    isplitl [A]; · iexact A
    isplitl [B]; · iexact B
    iexact C
  · refine BIBase.Entails.trans ?_ h2.2
    iintro ⟨A, B, C⟩
    isplitr [C]
    · isplitl [A]; · iexact A
      iexact B
    iexact C
theorem sp_r3 : rcvPay X c .r3 ⊣⊢ iprop(sndPay X c .z3t ∗ r3R X c) := cut4 c (rows3_union (by decide) (by decide)) rows3_disj _
theorem sp_l3 : rcvPay X c .l3 ⊣⊢ iprop(sndPay X c .z3b ∗ l3R X c) := cut4 c (rows3_union (by decide) (by decide)) rows3_disj _

/-- A landing buffer of the relay, the rows that are landed on again given away. -/
theorem sp_pr : rcvPay X c .pr1 ⊢ iprop(any c bPr (rows2 256 0 88) ∗ any c bPr (rows2 256 88 256)) :=
  any_of.trans (any_cut (rows2_union (by decide) (by decide)) rows2_disj)
theorem sp_pl : rcvPay X c .pl1 ⊢ iprop(any c bPl (rows2 256 0 88) ∗ any c bPl (rows2 256 88 256)) :=
  any_of.trans (any_cut (rows2_union (by decide) (by decide)) rows2_disj)
end Splits

/-! ## The statements -/

section Moves
variable (X : Dev nD → S512x4096.Idx → Elt F .f32) (K : Dev nD × CellIx → ℕ)

/-- What a device owes after its first `n` payments. -/
def owN (c : Dev nD) (n : ℕ) : sProp 𝕄 := ow c (pays.drop n)
/-- Ready to send, -/
def go (c : Dev nD) (k : Tr) : sProp 𝕄 := iprop(tx c k ∗ at_ c (.snd k))
/-- sent and not yet departed, -/
def sent (c : Dev nD) (k : Tr) : sProp 𝕄 := iprop(crT c (.snd k) ∗ at_ c (.snd k))
/-- before a wait for a slot whose credit is there from the start, -/
def due (c : Dev nD) (s : Slot) : sProp 𝕄 := iprop(crT c s ∗ at_ c s)
/-- and past a slot. -/
def fin (c : Dev nD) (s : Slot) : sProp 𝕄 := iprop(past c s ∗ reached ER (cell c s) (rnd s + 1))

variable {α : Type}

theorem do_send' {Q : α → sProp 𝕄} {k : PUnit → Prog (TpuEff nD τ sig (Elt F) Λ₀ .tc) α} (c : Dev nD) (k' : Tr) {sh : Shape} {src dm : Memref sig .tc .vmem sh .f32} (hx : Xfer (F := F) X c k' src dm) {n : Dev nD} (hn : n = dst k' c)
    {s₁ s₂ : DmaSem sig} (h₁ : s₁ = sS k') (h₂ : s₂ = rS k') {hsc : (dm : Memref sig (Dev.tc n : Thread nD τ).2.kind .vmem sh .f32).view.ref.isScScratch = false}
    {hsrc : src.view.WordExact} {hdst : dm.view.WordExact}
    {hsem : DmaTarget.Typed (nD := nD) (τ := τ) (p := .tc) .vmem (.dma s₂) (.remote (Dev.tc n : Thread nD τ) dm (.dma s₁) hsc)} (a : ℕ)
    (ha : pays.drop a = (.rcv k', dir k') :: pays.drop (a + 1)) :
    ctx X K ⊢ iprop(rch c (.snd k') -∗ rch (dst k' c) (.rcv k') -∗ sndPay X c k' -∗ land (dst k' c) k' -∗ owN c a -∗ go c k'
      -∗ ((sent c k' ∗ owN c (a + 1)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dm (.dma s₁) hsc) (.dma s₂) hsrc hdst hsem) k) Q) := by
  unfold owN go sent
  rw [ha]
  iintro #HC #H1 #H2 Hs Hl HO ⟨Ht, Ha⟩ Hk
  iapply (step_send X K c k' hx hn h₁ h₂ (pays.drop (a + 1)) rfl) $$ [Hs Hl HO Ht]
  · isplitr; · iexact HC
    isplitr; · iexact H1
    isplitr; · iexact H2
    isplitl [Hs]; · iexact Hs
    isplitl [Hl]; · iexact Hl
    isplitl [HO]; · iexact HO
    iexact Ht
  iintro ⟨Hc, HO⟩
  iapply Hk
  isplitr [HO]
  · isplitl [Hc]; · iexact Hc
    iexact Ha
  iexact HO

/-- A transfer on semaphores in their first round. -/
theorem do_send {Q : α → sProp 𝕄} {k : PUnit → Prog (TpuEff nD τ sig (Elt F) Λ₀ .tc) α} (c : Dev nD) (k' : Tr) {sh : Shape} {src dm : Memref sig .tc .vmem sh .f32} (hx : Xfer (F := F) X c k' src dm) {n : Dev nD} (hn : n = dst k' c)
    {s₁ s₂ : DmaSem sig} (h₁ : s₁ = sS k') (h₂ : s₂ = rS k') {hsc : (dm : Memref sig (Dev.tc n : Thread nD τ).2.kind .vmem sh .f32).view.ref.isScScratch = false}
    {hsrc : src.view.WordExact} {hdst : dm.view.WordExact}
    {hsem : DmaTarget.Typed (nD := nD) (τ := τ) (p := .tc) .vmem (.dma s₂) (.remote (Dev.tc n : Thread nD τ) dm (.dma s₁) hsc)} (a : ℕ)
    (ha : pays.drop a = (.rcv k', dir k') :: pays.drop (a + 1)) (r₁ : rnd (.snd k') = 0) (r₂ : rnd (.rcv k') = 0) :
    ctx X K ⊢ iprop(sndPay X c k' -∗ land (dst k' c) k' -∗ owN c a -∗ go c k'
      -∗ ((sent c k' ∗ owN c (a + 1)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dm (.dma s₁) hsc) (.dma s₂) hsrc hdst hsem) k) Q) := by
  have e1 : ctx X K ⊢ rch c (.snd k') := by unfold rch; rw [r₁]; exact ctx_reached X K c (.snd k')
  have e2 : ctx X K ⊢ rch (dst k' c) (.rcv k') := by unfold rch; rw [r₂]; exact ctx_reached X K (dst k' c) (.rcv k')
  iintro #HC
  iapply (do_send' X K c k' hx hn h₁ h₂ a ha) $$ HC [] []
  · iapply e1; iexact HC
  · iapply e2; iexact HC

/-- A wait for a transfer to arrive, -/
theorem do_recv {Q : α → sProp 𝕄} {k : PUnit → Prog (TpuEff nD τ sig (Elt F) Λ₀ .tc) α} (c : Dev nD) (k' : Tr) {sp sp' : Space} {sh : Shape} {e : EltTy} {sm : DmaSem sig} {src : Memref sig .tc sp sh e} {dm : Memref sig .tc sp' sh e}
    {h₁ : src.view.WordExact} {h₂ : dm.view.WordExact} (hs : sm = rS k') (hk : dm.view.dmaCredit = amt k')
    (a : ℕ) (hl : ∀ p ∈ pays.drop a, lev (.rcv k') < lev p.1) :
    ctx X K ⊢ iprop(due c (.rcv k') -∗ owN c a
      -∗ ((owN c a ∗ fin c (.rcv k') ∗ rcvPay X c k') -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dm h₁ h₂) k) Q) := by
  subst hs
  unfold due owN fin
  iintro #HC ⟨Hc, Ha⟩ HO Hk
  iapply (step_dmaWait X K c (.rcv k') rfl rfl hk (pays.drop a) hl) $$ [Hc Ha HO]
  · isplitr; · iexact HC
    isplitl [Hc]; · iexact Hc
    isplitl [HO]; · iexact HO
    iexact Ha
  iintro ⟨HO, Ha, Hr, Hp⟩
  iapply Hk
  isplitl [HO]; · iexact HO
  isplitr [Hp]
  · isplitl [Ha]; · iexact Ha
    iexact Hr
  iapply (show payS X c (.rcv k') 0 ⊢ rcvPay X c k' from .rfl); iexact Hp

/-- and for one to depart. -/
theorem do_sent {Q : α → sProp 𝕄} {k : PUnit → Prog (TpuEff nD τ sig (Elt F) Λ₀ .tc) α} (c : Dev nD) (k' : Tr) {sp sp' : Space} {sh : Shape} {e : EltTy} {sm : DmaSem sig} {src : Memref sig .tc sp sh e} {dm : Memref sig .tc sp' sh e}
    {h₁ : src.view.WordExact} {h₂ : dm.view.WordExact} (hs : sm = sS k') (hk : dm.view.dmaCredit = amt k')
    (a : ℕ) (hl : ∀ p ∈ pays.drop a, 0 < lev p.1) :
    ctx X K ⊢ iprop(sent c k' -∗ owN c a
      -∗ ((owN c a ∗ fin c (.snd k') ∗ sndPay X c k') -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dm h₁ h₂) k) Q) := by
  subst hs
  unfold sent owN fin
  iintro #HC ⟨Hc, Ha⟩ HO Hk
  iapply (step_dmaWait X K c (.snd k') rfl rfl hk (pays.drop a) hl) $$ [Hc Ha HO]
  · isplitr; · iexact HC
    isplitl [Hc]; · iexact Hc
    isplitl [HO]; · iexact HO
    iexact Ha
  iintro ⟨HO, Ha, Hr, Hp⟩
  iapply Hk
  isplitl [HO]; · iexact HO
  isplitr [Hp]
  · isplitl [Ha]; · iexact Ha
    iexact Hr
  iapply (show payS X c (.snd k') 0 ⊢ sndPay X c k' from .rfl); iexact Hp

/-- A signal: of the barrier, or a credit. -/
theorem do_signal {Q : α → sProp 𝕄} {k : PUnit → Prog (TpuEff nD τ sig (Elt F) Λ₀ .tc) α} (c : Dev nD) (s : Slot) (j : Fin 3) (d : Fin 3) (hd : d ∈ dutiesS s) {n : Dev nD} (hn : n = nb j c) {sm : Sem sig}
    (hs : SemLoc.reg sm = semOf s) (hu : amtS s = 1) {z : ℤ} (hz : z = ((1 : ℕ) : ℤ)) (a : ℕ) (ha : pays.drop a = (s, j) :: pays.drop (a + 1)) (hr : rnd s = 0) :
    ctx X K ⊢ iprop(tok (nb j c) s d -∗ payS X (nb j c) s d -∗ owN c a
      -∗ (owN c (a + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) sm z) k) Q) := by
  have e1 : ctx X K ⊢ rch (nb j c) s := by unfold rch; rw [hr]; exact ctx_reached X K (nb j c) s
  unfold owN
  rw [ha]
  iintro #HC Ht Hp HO Hk
  iapply (step_signal X K c s j d hd hn hs hu hz (pays.drop (a + 1))) $$ [HO Ht Hp]
  · isplitr; · iexact HC
    isplitl [HO]; · iexact HO
    isplitl [Ht]; · iexact Ht
    isplitl [Hp]; · iexact Hp
    iapply e1; iexact HC
  iexact Hk

/-- A wait on a regular semaphore. -/
theorem do_wait {Q : α → sProp 𝕄} {k : PUnit → Prog (TpuEff nD τ sig (Elt F) Λ₀ .tc) α} (c : Dev nD) (s : Slot) {sm : Sem sig} {z : ℤ} (hs : SemLoc.reg sm = semOf s) (hz : z = ((expS s : ℕ) : ℤ))
    (a : ℕ) (hl : ∀ p ∈ pays.drop a, lev s < lev p.1) :
    ctx X K ⊢ iprop(due c s -∗ owN c a
      -∗ ((owN c a ∗ fin c s ∗ bigSep (dutiesS s) (fun d => payS X c s d)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm z) k) Q) := by
  unfold due owN fin
  iintro #HC ⟨Hc, Ha⟩ HO Hk
  iapply (step_semWait X K c s hs hz (pays.drop a) hl) $$ [Hc Ha HO]
  · isplitr; · iexact HC
    isplitl [Hc]; · iexact Hc
    isplitl [HO]; · iexact HO
    iexact Ha
  iintro ⟨HO, Ha, Hr, Hp⟩
  iapply Hk
  isplitl [HO]; · iexact HO
  isplitr [Hp]
  · isplitl [Ha]; · iexact Ha
    iexact Hr
  iexact Hp

end Moves

/-- A function of the kernel's buffers and semaphores, on them. -/
abbrev on {β : Type 1} (f : (a0 : Memref sig .tc .vmem S512x4096 .f32) → a0.IsWhole → (a1 : Memref sig .tc .vmem S4096x256 .f32) → a1.IsWhole → (a2 : Memref sig .tc .vmem S4096x256 .f32) → a2.IsWhole
    → (a3 : Memref sig .tc .vmem S512x4096 .f32) → a3.IsWhole → (a4 : Memref sig .tc .vmem S256x4096 .f32) → a4.IsWhole → (a5 : Memref sig .tc .vmem S256x4096 .f32) → a5.IsWhole
    → (a6 : Memref sig .tc .vmem S88x4096 .f32) → a6.IsWhole → (a7 : Memref sig .tc .vmem S88x4096 .f32) → a7.IsWhole
    → (a8 : Memref sig .tc .vmem S2x256x4096 .f32) → a8.IsWhole → (a9 : Memref sig .tc .vmem S2x256x4096 .f32) → a9.IsWhole
    → (a10 : Memref sig .tc .vmem S256x4096 .f32) → a10.IsWhole → (a11 : Memref sig .tc .vmem S256x4096 .f32) → a11.IsWhole
    → DmaSems sig S3 → DmaSems sig S3 → DmaSems sig S3 → DmaSems sig S3 → DmaSems sig S2 → DmaSems sig S2 → DmaSems sig S2 → DmaSems sig S2
    → DmaSems sig S_ → DmaSems sig S_ → DmaSems sig S_ → DmaSems sig S_ → DmaSems sig S_ → DmaSems sig S_ → DmaSems sig S_
    → DmaSems sig S_ → DmaSems sig S_ → DmaSems sig S_ → DmaSems sig S_ → DmaSems sig S_ → DmaSems sig S_ → DmaSems sig S_
    → Sems sig S_ → Sems sig S_ → Sems sig S_ → Sems sig S_ → β) : β :=
  f (Memref.whole cc0_stg0_0) (hstage0_0 0) (Memref.whole cc0_stg1_0) (hstage0_1 0) (Memref.whole cc0_stg2_0) (hstage0_2 0)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16 cc0_scratch17 cc0_scratch18
    cc0_scratch19 cc0_scratch20 cc0_scratch21 cc0_scratch22 cc0_scratch23 cc0_scratch24 cc0_scratch25 cc0_scratch26 cc0_scratch27 cc0_scratch28
    cc0_scratch29 cc0_scratch30 cc0_scratch31 cc0_scratch32 cc0_scratch33 cc0_scratch34

end Cert.KernelIdeal.Sched

end
-- ==== Proof.Loads.lean ====
/- The loads of what was received. -/
module

public import proofs.«01_k».proof.Proof.Moves

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Loads
variable (X : Dev nD → S512x4096.Idx → Elt F .f32) {α : Type} {Q : α → sProp (MT nD τ sig ℕ (Elt F) ℕ UU ℕ)}

omit [FloatOps F] in
theorem sub_rows2 {n m k lo hi : ℕ} {inb : ∀ a, (![k, 0] : Fin 2 → ℕ) a + (⟨2, ![m, 4096]⟩ : Shape).size a ≤ (⟨2, ![n, 4096]⟩ : Shape).size a} (h : lo ≤ k) (h' : k + m ≤ hi) :
    ∀ y ∈ (Rect.unit (s := ⟨2, ![n, 4096]⟩) ![k, 0] (⟨2, ![m, 4096]⟩ : Shape).size inb).set, y ∈ rows2 n lo hi := by
  intro y hy
  have h0 : k ≤ (y 0).val ∧ (y 0).val < k + m := (Rect.mem_set_unit.mp hy) 0
  rw [mem_rows2]; omega

omit [FloatOps F] in
theorem sub_rows3 {s : ℕ} {inb : ∀ a, (![s, 0, 0] : Fin 3 → ℕ) a + S1x256x4096.size a ≤ S2x256x4096.size a} :
    ∀ y ∈ (Rect.unit (s := S2x256x4096) ![s, 0, 0] S1x256x4096.size inb).set, y ∈ rows3 s 0 256 := by
  intro y hy
  have h0 : s ≤ (y 0).val ∧ (y 0).val < s + 1 := (Rect.mem_set_unit.mp hy) 0
  have h1 : 0 ≤ (y 1).val ∧ (y 1).val < 0 + 256 := (Rect.mem_set_unit.mp hy) 1
  rw [mem_rows3]; omega

/-- Rows of a buffer of rank two that holds rows of a device's block, read; -/
theorem ld2 {n m k : ℕ} (c : Dev nD) {M : Memref sig .tc .vmem ⟨2, ![n, 4096]⟩ .f32}
    {inb : ∀ a, (![k, 0] : Fin 2 → ℕ) a + (⟨2, ![m, 4096]⟩ : Shape).size a ≤ (⟨2, ![n, 4096]⟩ : Shape).size a}
    {hl : M.view.LoadsAt (Rect.unit (s := ⟨2, ![n, 4096]⟩) ![k, 0] (⟨2, ![m, 4096]⟩ : Shape).size inb).toLoadRect}
    {kk : ((⟨2, ![m, 4096]⟩ : Shape).Idx → Elt F .f32) → Prog (TpuEff nD τ sig (Elt F) Λ₀ .tc) α} {S : Finset (Idx (M.view.loc (c : Thread nD τ)))} {q : PosShare TreeShare}
    {f : Buf (Elt F) (M.view.loc (c : Thread nD τ))} {d : Dev nD} {o o' : ℕ} (hf : Reads X M f d o) (ho : o + k = o')
    (hS : M.view.setOn (Rect.unit (s := ⟨2, ![n, 4096]⟩) ![k, 0] (⟨2, ![m, 4096]⟩ : Shape).size inb).toLoadRect.set ⊆ S) :
    (((M.view.loc (c : Thread nD τ)) ↦[S]{q} f) : sProp 𝕄) ⊢ iprop((((M.view.loc (c : Thread nD τ)) ↦[S]{q} f) -∗ wp frame (wpE (defs₀ (F := F)) 𝒱₀ (c : Thread nD τ) none) Set.univ (kk (c2 X d o')) Q)
      -∗ wp frame (wpE (defs₀ (F := F)) 𝒱₀ (c : Thread nD τ) none) Set.univ (.op (.load M (Rect.unit (s := ⟨2, ![n, 4096]⟩) ![k, 0] (⟨2, ![m, 4096]⟩ : Shape).size inb).toLoadRect hl) kk) Q) := by
  subst ho
  refine step_load c hS (funext fun x => ?_)
  refine (hf _).trans ?_
  show xa X d (o + (k + 1 * (x 0).val)) (0 + 1 * (x 1).val) = xa X d (o + k + (x 0).val) (x 1).val
  rw [Nat.one_mul, Nat.one_mul, Nat.zero_add, Nat.add_assoc]

/-- and a slot of one of rank three. -/
theorem ld3 {s : ℕ} (c : Dev nD) {M : Memref sig .tc .vmem S2x256x4096 .f32}
    {inb : ∀ a, (![s, 0, 0] : Fin 3 → ℕ) a + S1x256x4096.size a ≤ S2x256x4096.size a}
    {hl : M.view.LoadsAt (Rect.unit (s := S2x256x4096) ![s, 0, 0] S1x256x4096.size inb).toLoadRect}
    {kk : (S1x256x4096.Idx → Elt F .f32) → Prog (TpuEff nD τ sig (Elt F) Λ₀ .tc) α} {S : Finset (Idx (M.view.loc (c : Thread nD τ)))} {q : PosShare TreeShare}
    {f : Buf (Elt F) (M.view.loc (c : Thread nD τ))} {d : Dev nD} {o : ℕ} (hf : Reads3 X M f d o)
    (hS : M.view.setOn (Rect.unit (s := S2x256x4096) ![s, 0, 0] S1x256x4096.size inb).toLoadRect.set ⊆ S) :
    (((M.view.loc (c : Thread nD τ)) ↦[S]{q} f) : sProp 𝕄) ⊢ iprop((((M.view.loc (c : Thread nD τ)) ↦[S]{q} f) -∗ wp frame (wpE (defs₀ (F := F)) 𝒱₀ (c : Thread nD τ) none) Set.univ (kk (c1 X d o)) Q)
      -∗ wp frame (wpE (defs₀ (F := F)) 𝒱₀ (c : Thread nD τ) none) Set.univ (.op (.load M (Rect.unit (s := S2x256x4096) ![s, 0, 0] S1x256x4096.size inb).toLoadRect hl) kk) Q) := by
  refine step_load c hS (funext fun x => ?_)
  refine (hf _).trans ?_
  show xa X d (o + (0 + 1 * (x 1).val)) (0 + 1 * (x 2).val) = xa X d (o + (x 1).val) (x 2).val
  rw [Nat.one_mul, Nat.one_mul, Nat.zero_add, Nat.zero_add]

variable (c : Dev nD)

/-- A device's own rows read, -/
theorem ld_x {inb : ∀ a, (![0, 0] : Fin 2 → ℕ) a + S512x4096.size a ≤ S512x4096.size a} {hl : xM.view.LoadsAt (Rect.unit (s := S512x4096) ![0, 0] S512x4096.size inb).toLoadRect} {kk : (S512x4096.Idx → Elt F .f32) → Prog (TpuEff nD τ sig (Elt F) Λ₀ .tc) α} :
    xR X c ⊢ iprop((xR X c -∗ wp frame (wpE (defs₀ (F := F)) 𝒱₀ (c : Thread nD τ) none) Set.univ (kk (c2 X c 0)) Q)
      -∗ wp frame (wpE (defs₀ (F := F)) 𝒱₀ (c : Thread nD τ) none) Set.univ (.op (.load xM (Rect.unit (s := S512x4096) ![0, 0] S512x4096.size inb).toLoadRect hl) kk) Q) :=
  ld2 X c (M := xM) (n := 512) (m := 512) (k := 0) (S := rows2 512 0 512) (f := c2 X c 0) (o := 0) (o' := 0) (fun _ => rfl) rfl (fun y hy => by obtain ⟨x, hx, rfl⟩ := Finset.mem_map.mp hy; exact sub_rows2 (by decide) (by decide) x hx)

/-- its partner's, -/
theorem ld_p {inb : ∀ a, (![0, 0] : Fin 2 → ℕ) a + S512x4096.size a ≤ S512x4096.size a} {hl : pairM.view.LoadsAt (Rect.unit (s := S512x4096) ![0, 0] S512x4096.size inb).toLoadRect} {kk : (S512x4096.Idx → Elt F .f32) → Prog (TpuEff nD τ sig (Elt F) Λ₀ .tc) α} :
    pR X c ⊢ iprop((pR X c -∗ wp frame (wpE (defs₀ (F := F)) 𝒱₀ (c : Thread nD τ) none) Set.univ (kk (c2 X (pa c) 0)) Q)
      -∗ wp frame (wpE (defs₀ (F := F)) 𝒱₀ (c : Thread nD τ) none) Set.univ (.op (.load pairM (Rect.unit (s := S512x4096) ![0, 0] S512x4096.size inb).toLoadRect hl) kk) Q) :=
  ld2 X c (M := pairM) (n := 512) (m := 512) (k := 0) (S := rows2 512 0 512) (f := c2 X (pa c) 0) (o := 0) (o' := 0) (fun _ => rfl) rfl (fun y hy => by obtain ⟨x, hx, rfl⟩ := Finset.mem_map.mp hy; exact sub_rows2 (by decide) (by decide) x hx)

/-- the slots of the rings, -/
theorem ld_r0 {inb : ∀ a, (![0, 0, 0] : Fin 3 → ℕ) a + S1x256x4096.size a ≤ S2x256x4096.size a} {hl : orM.view.LoadsAt (Rect.unit (s := S2x256x4096) ![0, 0, 0] S1x256x4096.size inb).toLoadRect} {kk : (S1x256x4096.Idx → Elt F .f32) → Prog (TpuEff nD τ sig (Elt F) Λ₀ .tc) α} :
    r0R X c ⊢ iprop((r0R X c -∗ wp frame (wpE (defs₀ (F := F)) 𝒱₀ (c : Thread nD τ) none) Set.univ (kk (c1 X (lf c) 0)) Q)
      -∗ wp frame (wpE (defs₀ (F := F)) 𝒱₀ (c : Thread nD τ) none) Set.univ (.op (.load orM (Rect.unit (s := S2x256x4096) ![0, 0, 0] S1x256x4096.size inb).toLoadRect hl) kk) Q) :=
  ld3 X c (M := orM) (s := 0) (S := rows3 0 0 256) (f := c3 X (lf c) 0) (o := 0) (fun _ => rfl) (fun y hy => by obtain ⟨x, hx, rfl⟩ := Finset.mem_map.mp hy; exact sub_rows3 x hx)

theorem ld_l0 {inb : ∀ a, (![0, 0, 0] : Fin 3 → ℕ) a + S1x256x4096.size a ≤ S2x256x4096.size a} {hl : olM.view.LoadsAt (Rect.unit (s := S2x256x4096) ![0, 0, 0] S1x256x4096.size inb).toLoadRect} {kk : (S1x256x4096.Idx → Elt F .f32) → Prog (TpuEff nD τ sig (Elt F) Λ₀ .tc) α} :
    l0R X c ⊢ iprop((l0R X c -∗ wp frame (wpE (defs₀ (F := F)) 𝒱₀ (c : Thread nD τ) none) Set.univ (kk (c1 X (rt c) 256)) Q)
      -∗ wp frame (wpE (defs₀ (F := F)) 𝒱₀ (c : Thread nD τ) none) Set.univ (.op (.load olM (Rect.unit (s := S2x256x4096) ![0, 0, 0] S1x256x4096.size inb).toLoadRect hl) kk) Q) :=
  ld3 X c (M := olM) (s := 0) (S := rows3 0 0 256) (f := c3 X (rt c) 256) (o := 256) (fun _ => rfl) (fun y hy => by obtain ⟨x, hx, rfl⟩ := Finset.mem_map.mp hy; exact sub_rows3 x hx)

theorem ld_r1 {inb : ∀ a, (![1, 0, 0] : Fin 3 → ℕ) a + S1x256x4096.size a ≤ S2x256x4096.size a} {hl : orM.view.LoadsAt (Rect.unit (s := S2x256x4096) ![1, 0, 0] S1x256x4096.size inb).toLoadRect} {kk : (S1x256x4096.Idx → Elt F .f32) → Prog (TpuEff nD τ sig (Elt F) Λ₀ .tc) α} :
    r1R X c ⊢ iprop((r1R X c -∗ wp frame (wpE (defs₀ (F := F)) 𝒱₀ (c : Thread nD τ) none) Set.univ (kk (c1 X (lf (lf c)) 0)) Q)
      -∗ wp frame (wpE (defs₀ (F := F)) 𝒱₀ (c : Thread nD τ) none) Set.univ (.op (.load orM (Rect.unit (s := S2x256x4096) ![1, 0, 0] S1x256x4096.size inb).toLoadRect hl) kk) Q) :=
  ld3 X c (M := orM) (s := 1) (S := rows3 1 0 256) (f := c3 X (lf (lf c)) 0) (o := 0) (fun _ => rfl) (fun y hy => by obtain ⟨x, hx, rfl⟩ := Finset.mem_map.mp hy; exact sub_rows3 x hx)

theorem ld_l1 {inb : ∀ a, (![1, 0, 0] : Fin 3 → ℕ) a + S1x256x4096.size a ≤ S2x256x4096.size a} {hl : olM.view.LoadsAt (Rect.unit (s := S2x256x4096) ![1, 0, 0] S1x256x4096.size inb).toLoadRect} {kk : (S1x256x4096.Idx → Elt F .f32) → Prog (TpuEff nD τ sig (Elt F) Λ₀ .tc) α} :
    l1R X c ⊢ iprop((l1R X c -∗ wp frame (wpE (defs₀ (F := F)) 𝒱₀ (c : Thread nD τ) none) Set.univ (kk (c1 X (rt (rt c)) 256)) Q)
      -∗ wp frame (wpE (defs₀ (F := F)) 𝒱₀ (c : Thread nD τ) none) Set.univ (.op (.load olM (Rect.unit (s := S2x256x4096) ![1, 0, 0] S1x256x4096.size inb).toLoadRect hl) kk) Q) :=
  ld3 X c (M := olM) (s := 1) (S := rows3 1 0 256) (f := c3 X (rt (rt c)) 256) (o := 256) (fun _ => rfl) (fun y hy => by obtain ⟨x, hx, rfl⟩ := Finset.mem_map.mp hy; exact sub_rows3 x hx)

theorem ld_r3 {inb : ∀ a, (![0, 0, 0] : Fin 3 → ℕ) a + S1x256x4096.size a ≤ S2x256x4096.size a} {hl : orM.view.LoadsAt (Rect.unit (s := S2x256x4096) ![0, 0, 0] S1x256x4096.size inb).toLoadRect} {kk : (S1x256x4096.Idx → Elt F .f32) → Prog (TpuEff nD τ sig (Elt F) Λ₀ .tc) α} :
    r3R X c ⊢ iprop((r3R X c -∗ wp frame (wpE (defs₀ (F := F)) 𝒱₀ (c : Thread nD τ) none) Set.univ (kk (c1 X (lf (lf (lf c))) 0)) Q)
      -∗ wp frame (wpE (defs₀ (F := F)) 𝒱₀ (c : Thread nD τ) none) Set.univ (.op (.load orM (Rect.unit (s := S2x256x4096) ![0, 0, 0] S1x256x4096.size inb).toLoadRect hl) kk) Q) := by
  unfold r3R
  iintro ⟨H0, H⟩ Hk
  iapply (ld3 X c (M := orM) (s := 0) (S := rows3 0 0 256) (f := c3 X (lf (lf (lf c))) 0) (o := 0) (fun _ => rfl) (fun y hy => by obtain ⟨x, hx, rfl⟩ := Finset.mem_map.mp hy; exact sub_rows3 x hx)) $$ H; iintro H
  iapply Hk
  isplitl [H0]; · iexact H0
  iexact H

theorem ld_l3 {inb : ∀ a, (![0, 0, 0] : Fin 3 → ℕ) a + S1x256x4096.size a ≤ S2x256x4096.size a} {hl : olM.view.LoadsAt (Rect.unit (s := S2x256x4096) ![0, 0, 0] S1x256x4096.size inb).toLoadRect} {kk : (S1x256x4096.Idx → Elt F .f32) → Prog (TpuEff nD τ sig (Elt F) Λ₀ .tc) α} :
    l3R X c ⊢ iprop((l3R X c -∗ wp frame (wpE (defs₀ (F := F)) 𝒱₀ (c : Thread nD τ) none) Set.univ (kk (c1 X (rt (rt (rt c))) 256)) Q)
      -∗ wp frame (wpE (defs₀ (F := F)) 𝒱₀ (c : Thread nD τ) none) Set.univ (.op (.load olM (Rect.unit (s := S2x256x4096) ![0, 0, 0] S1x256x4096.size inb).toLoadRect hl) kk) Q) := by
  unfold l3R
  iintro ⟨H0, H⟩ Hk
  iapply (ld3 X c (M := olM) (s := 0) (S := rows3 0 0 256) (f := c3 X (rt (rt (rt c))) 256) (o := 256) (fun _ => rfl) (fun y hy => by obtain ⟨x, hx, rfl⟩ := Finset.mem_map.mp hy; exact sub_rows3 x hx)) $$ H; iintro H
  iapply Hk
  isplitl [H0]; · iexact H0
  iexact H

/-- and the relayed rows. -/
theorem ld_pr1 {inb : ∀ a, (![0, 0] : Fin 2 → ℕ) a + S256x4096.size a ≤ S256x4096.size a} {hl : prM.view.LoadsAt (Rect.unit (s := S256x4096) ![0, 0] S256x4096.size inb).toLoadRect} {kk : (S256x4096.Idx → Elt F .f32) → Prog (TpuEff nD τ sig (Elt F) Λ₀ .tc) α} :
    rcvPay X c .pr1 ⊢ iprop((rcvPay X c .pr1 -∗ wp frame (wpE (defs₀ (F := F)) 𝒱₀ (c : Thread nD τ) none) Set.univ (kk (c2 X (pa (lf c)) 0)) Q)
      -∗ wp frame (wpE (defs₀ (F := F)) 𝒱₀ (c : Thread nD τ) none) Set.univ (.op (.load prM (Rect.unit (s := S256x4096) ![0, 0] S256x4096.size inb).toLoadRect hl) kk) Q) :=
  ld2 X c (M := prM) (n := 256) (m := 256) (k := 0) (S := rows2 256 0 256) (f := c2 X (pa (lf c)) 0) (o := 0) (o' := 0) (fun _ => rfl) rfl (fun y hy => by obtain ⟨x, hx, rfl⟩ := Finset.mem_map.mp hy; exact sub_rows2 (by decide) (by decide) x hx)

theorem ld_pl1 {inb : ∀ a, (![0, 0] : Fin 2 → ℕ) a + S256x4096.size a ≤ S256x4096.size a} {hl : plM.view.LoadsAt (Rect.unit (s := S256x4096) ![0, 0] S256x4096.size inb).toLoadRect} {kk : (S256x4096.Idx → Elt F .f32) → Prog (TpuEff nD τ sig (Elt F) Λ₀ .tc) α} :
    rcvPay X c .pl1 ⊢ iprop((rcvPay X c .pl1 -∗ wp frame (wpE (defs₀ (F := F)) 𝒱₀ (c : Thread nD τ) none) Set.univ (kk (c2 X (pa (rt c)) 256)) Q)
      -∗ wp frame (wpE (defs₀ (F := F)) 𝒱₀ (c : Thread nD τ) none) Set.univ (.op (.load plM (Rect.unit (s := S256x4096) ![0, 0] S256x4096.size inb).toLoadRect hl) kk) Q) :=
  ld2 X c (M := plM) (n := 256) (m := 256) (k := 0) (S := rows2 256 0 256) (f := c2 X (pa (rt c)) 256) (o := 256) (o' := 256) (fun _ => rfl) rfl (fun y hy => by obtain ⟨x, hx, rfl⟩ := Finset.mem_map.mp hy; exact sub_rows2 (by decide) (by decide) x hx)

theorem ld_dt {inb : ∀ a, (![0, 0] : Fin 2 → ℕ) a + S256x4096.size a ≤ S256x4096.size a} {hl : dtM.view.LoadsAt (Rect.unit (s := S256x4096) ![0, 0] S256x4096.size inb).toLoadRect} {kk : (S256x4096.Idx → Elt F .f32) → Prog (TpuEff nD τ sig (Elt F) Λ₀ .tc) α} :
    dtR X c ⊢ iprop((dtR X c -∗ wp frame (wpE (defs₀ (F := F)) 𝒱₀ (c : Thread nD τ) none) Set.univ (kk (c2 X (pa (lf (lf c))) 0)) Q)
      -∗ wp frame (wpE (defs₀ (F := F)) 𝒱₀ (c : Thread nD τ) none) Set.univ (.op (.load dtM (Rect.unit (s := S256x4096) ![0, 0] S256x4096.size inb).toLoadRect hl) kk) Q) := by
  unfold dtR
  iintro ⟨H0, H⟩ Hk
  iapply (ld2 X c (M := dtM) (n := 256) (m := 256) (k := 0) (S := rows2 256 0 256) (f := c2 X (pa (lf (lf c))) 0) (o := 0) (o' := 0) (fun _ => rfl) rfl (fun y hy => by obtain ⟨x, hx, rfl⟩ := Finset.mem_map.mp hy; exact sub_rows2 (by decide) (by decide) x hx)) $$ H; iintro H
  iapply Hk
  isplitl [H0]; · iexact H0
  iexact H

theorem ld_db {inb : ∀ a, (![0, 0] : Fin 2 → ℕ) a + S256x4096.size a ≤ S256x4096.size a} {hl : dbM.view.LoadsAt (Rect.unit (s := S256x4096) ![0, 0] S256x4096.size inb).toLoadRect} {kk : (S256x4096.Idx → Elt F .f32) → Prog (TpuEff nD τ sig (Elt F) Λ₀ .tc) α} :
    dbR X c ⊢ iprop((dbR X c -∗ wp frame (wpE (defs₀ (F := F)) 𝒱₀ (c : Thread nD τ) none) Set.univ (kk (c2 X (pa (rt (rt c))) 256)) Q)
      -∗ wp frame (wpE (defs₀ (F := F)) 𝒱₀ (c : Thread nD τ) none) Set.univ (.op (.load dbM (Rect.unit (s := S256x4096) ![0, 0] S256x4096.size inb).toLoadRect hl) kk) Q) := by
  unfold dbR
  iintro ⟨H0, H⟩ Hk
  iapply (ld2 X c (M := dbM) (n := 256) (m := 256) (k := 0) (S := rows2 256 0 256) (f := c2 X (pa (rt (rt c))) 256) (o := 256) (o' := 256) (fun _ => rfl) rfl (fun y hy => by obtain ⟨x, hx, rfl⟩ := Finset.mem_map.mp hy; exact sub_rows2 (by decide) (by decide) x hx)) $$ H; iintro H
  iapply Hk
  isplitl [H0]; · iexact H0
  iexact H

theorem ld_z3t {inb : ∀ a, (![0, 0] : Fin 2 → ℕ) a + S88x4096.size a ≤ S88x4096.size a} {hl : rtM.view.LoadsAt (Rect.unit (s := S88x4096) ![0, 0] S88x4096.size inb).toLoadRect} {kk : (S88x4096.Idx → Elt F .f32) → Prog (TpuEff nD τ sig (Elt F) Λ₀ .tc) α} :
    rcvPay X c .z3t ⊢ iprop((rcvPay X c .z3t -∗ wp frame (wpE (defs₀ (F := F)) 𝒱₀ (c : Thread nD τ) none) Set.univ (kk (c2 X (pa (lf (lf (lf c)))) 0)) Q)
      -∗ wp frame (wpE (defs₀ (F := F)) 𝒱₀ (c : Thread nD τ) none) Set.univ (.op (.load rtM (Rect.unit (s := S88x4096) ![0, 0] S88x4096.size inb).toLoadRect hl) kk) Q) :=
  ld2 X c (M := rtM) (n := 88) (m := 88) (k := 0) (S := rows2 88 0 88) (f := c2 X (pa (lf (lf (lf c)))) 0) (o := 0) (o' := 0) (fun _ => rfl) rfl (fun y hy => by obtain ⟨x, hx, rfl⟩ := Finset.mem_map.mp hy; exact sub_rows2 (by decide) (by decide) x hx)

theorem ld_z3b {inb : ∀ a, (![0, 0] : Fin 2 → ℕ) a + S88x4096.size a ≤ S88x4096.size a} {hl : rbM.view.LoadsAt (Rect.unit (s := S88x4096) ![0, 0] S88x4096.size inb).toLoadRect} {kk : (S88x4096.Idx → Elt F .f32) → Prog (TpuEff nD τ sig (Elt F) Λ₀ .tc) α} :
    rcvPay X c .z3b ⊢ iprop((rcvPay X c .z3b -∗ wp frame (wpE (defs₀ (F := F)) 𝒱₀ (c : Thread nD τ) none) Set.univ (kk (c2 X (pa (rt (rt (rt c)))) 256)) Q)
      -∗ wp frame (wpE (defs₀ (F := F)) 𝒱₀ (c : Thread nD τ) none) Set.univ (.op (.load rbM (Rect.unit (s := S88x4096) ![0, 0] S88x4096.size inb).toLoadRect hl) kk) Q) :=
  ld2 X c (M := rbM) (n := 88) (m := 88) (k := 0) (S := rows2 88 0 88) (f := c2 X (pa (rt (rt (rt c)))) 256) (o := 256) (o' := 256) (fun _ => rfl) rfl (fun y hy => by obtain ⟨x, hx, rfl⟩ := Finset.mem_map.mp hy; exact sub_rows2 (by decide) (by decide) x hx)

theorem ld_pr3 {inb : ∀ a, (![88, 0] : Fin 2 → ℕ) a + S168x4096.size a ≤ S256x4096.size a} {hl : prM.view.LoadsAt (Rect.unit (s := S256x4096) ![88, 0] S168x4096.size inb).toLoadRect} {kk : (S168x4096.Idx → Elt F .f32) → Prog (TpuEff nD τ sig (Elt F) Λ₀ .tc) α} :
    rcvPay X c .pr3 ⊢ iprop((rcvPay X c .pr3 -∗ wp frame (wpE (defs₀ (F := F)) 𝒱₀ (c : Thread nD τ) none) Set.univ (kk (c2 X (pa (lf (lf (lf c)))) 88)) Q)
      -∗ wp frame (wpE (defs₀ (F := F)) 𝒱₀ (c : Thread nD τ) none) Set.univ (.op (.load prM (Rect.unit (s := S256x4096) ![88, 0] S168x4096.size inb).toLoadRect hl) kk) Q) :=
  ld2 X c (M := prM) (n := 256) (m := 168) (k := 88) (S := rows2 256 88 256) (f := c2 X (pa (lf (lf (lf c)))) 0) (o := 0) (o' := 88) (fun _ => rfl) rfl (fun y hy => by obtain ⟨x, hx, rfl⟩ := Finset.mem_map.mp hy; exact sub_rows2 (by decide) (by decide) x hx)

theorem ld_pl3 {inb : ∀ a, (![88, 0] : Fin 2 → ℕ) a + S168x4096.size a ≤ S256x4096.size a} {hl : plM.view.LoadsAt (Rect.unit (s := S256x4096) ![88, 0] S168x4096.size inb).toLoadRect} {kk : (S168x4096.Idx → Elt F .f32) → Prog (TpuEff nD τ sig (Elt F) Λ₀ .tc) α} :
    rcvPay X c .pl3 ⊢ iprop((rcvPay X c .pl3 -∗ wp frame (wpE (defs₀ (F := F)) 𝒱₀ (c : Thread nD τ) none) Set.univ (kk (c2 X (pa (rt (rt (rt c)))) 344)) Q)
      -∗ wp frame (wpE (defs₀ (F := F)) 𝒱₀ (c : Thread nD τ) none) Set.univ (.op (.load plM (Rect.unit (s := S256x4096) ![88, 0] S168x4096.size inb).toLoadRect hl) kk) Q) :=
  ld2 X c (M := plM) (n := 256) (m := 168) (k := 88) (S := rows2 256 88 256) (f := c2 X (pa (rt (rt (rt c)))) 256) (o := 256) (o' := 344) (fun _ => rfl) rfl (fun y hy => by obtain ⟨x, hx, rfl⟩ := Finset.mem_map.mp hy; exact sub_rows2 (by decide) (by decide) x hx)

end Loads

end Cert.KernelIdeal.Sched

end
-- ==== Proof.PartsA.lean ====
/- The first parts of the body. -/
module

public import proofs.«01_k».proof.Proof.Loads
public import proofs.«01_k».proof.Proof.Gen.KernelIdeal.Skeleton

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts
variable (X : Dev nD → S512x4096.Idx → Elt F .f32) (Wt : Dev nD → S4096x256.Idx → Elt F .f32) (K : Dev nD × CellIx → ℕ) (c : Dev nD)

/-! ## The barrier -/

omit [FloatOps F] in
/-- What a device's signals hand over is its own landing buffers: to its left neighbour, -/
theorem give_lf : iprop(any (F := F) c bOr Finset.univ ∗ any c bPr Finset.univ) ⊢ payS X (nb 0 c) .bar 0 := by
  show _ ⊢ barPay (lf c) 0
  dsimp only [barPay]
  rw [rt_lf, rows2_univ]
  iintro ⟨H, H'⟩
  ihave H := (any_cut slots_union slots_disj) $$ H
  icases H with ⟨H0, H1⟩
  isplitl [H0]; · iexact H0
  isplitl [H1]; · iexact H1
  iexact H'
omit [FloatOps F] in
/-- to its right one, -/
theorem give_rt : iprop(any (F := F) c bOl Finset.univ ∗ any c bPl Finset.univ) ⊢ payS X (nb 1 c) .bar 1 := by
  show _ ⊢ barPay (rt c) 1
  dsimp only [barPay]
  rw [lf_rt, rows2_univ]
  iintro ⟨H, H'⟩
  ihave H := (any_cut slots_union slots_disj) $$ H
  icases H with ⟨H0, H1⟩
  isplitl [H0]; · iexact H0
  isplitl [H1]; · iexact H1
  iexact H'
omit [FloatOps F] in
/-- and to its partner. -/
theorem give_pa : iprop(any (F := F) c bPair Finset.univ ∗ any c bDt Finset.univ ∗ any c bDb Finset.univ ∗ any c bRt Finset.univ ∗ any c bRb Finset.univ) ⊢ payS X (nb 2 c) .bar 2 := by
  show _ ⊢ barPay (pa c) 2
  dsimp only [barPay]
  rw [pa_pa, rows2_univ, rows2_univ, rows2_univ]

/-- Where a device's transfer lands. -/
abbrev lnd (k : Tr) : sProp 𝕄 := land (dst k c) k
/-- Where its transfers land: to the right, -/
def landR : sProp 𝕄 := iprop(lnd c .r1 ∗ lnd c .r2a ∗ lnd c .r2b ∗ lnd c .pr1)
/-- to the left, -/
def landL : sProp 𝕄 := iprop(lnd c .l1 ∗ lnd c .l2a ∗ lnd c .l2b ∗ lnd c .pl1)
/-- and to the partner. -/
def landP : sProp 𝕄 := iprop(lnd c .z1 ∗ lnd c .zta ∗ lnd c .ztb ∗ lnd c .zba ∗ lnd c .zbb ∗ lnd c .z3t ∗ lnd c .z3b)

omit [FloatOps F] in
theorem got_bar : bigSep (dutiesS .bar) (fun d => payS X c .bar d) ⊢ (iprop(landR c ∗ landL c ∗ landP c) : sProp 𝕄) := by
  have e : bigSep (dutiesS .bar) (fun d => payS X c .bar d) ⊢ (iprop(barPay c 0 ∗ barPay c 1 ∗ barPay c 2) : sProp 𝕄) := by
    rw [show dutiesS .bar = insert 0 (insert 1 {2}) by decide, bigSep_insert (by decide), bigSep_insert (by decide), bigSep_singleton]
    exact .rfl
  refine e.trans ?_
  dsimp only [barPay, landR, landL, landP, lnd, dst, land]
  iintro ⟨⟨A0, A1, A2⟩, ⟨B0, B1, B2⟩, C0, C1, C2, C3, C4⟩
  ihave A1 := (any_cut (rows3_union (show 0 ≤ 128 by decide) (show 128 ≤ 256 by decide)) rows3_disj) $$ A1
  ihave B1 := (any_cut (rows3_union (show 0 ≤ 128 by decide) (show 128 ≤ 256 by decide)) rows3_disj) $$ B1
  ihave C1 := (any_cut (rows2_union (show 0 ≤ 128 by decide) (show 128 ≤ 256 by decide)) rows2_disj) $$ C1
  ihave C2 := (any_cut (rows2_union (show 0 ≤ 128 by decide) (show 128 ≤ 256 by decide)) rows2_disj) $$ C2
  icases A1 with ⟨A1, A1'⟩
  icases B1 with ⟨B1, B1'⟩
  icases C1 with ⟨C1, C1'⟩
  icases C2 with ⟨C2, C2'⟩
  isplitl [A0 A1 A1' A2]
  · isplitl [A0]; · iexact A0
    isplitl [A1]; · iexact A1
    isplitl [A1']; · iexact A1'
    iexact A2
  isplitl [B0 B1 B1' B2]
  · isplitl [B0]; · iexact B0
    isplitl [B1]; · iexact B1
    isplitl [B1']; · iexact B1'
    iexact B2
  isplitl [C0]; · iexact C0
  isplitl [C1]; · iexact C1
  isplitl [C1']; · iexact C1'
  isplitl [C2]; · iexact C2
  isplitl [C2']; · iexact C2'
  isplitl [C3]; · iexact C3
  iexact C4

/-! ## The parts of the body, in the order of the program -/

theorem part1 {Q : (Σ' (d0 : Dev nD) (v2 : BitVec 32) (v12 : BitVec 32) (v13 : BitVec 32) (v25 : BitVec 32), BitVec 32) → sProp 𝕄} :
    iprop(∀ v2, ∀ v12, ∀ v13, ∀ v25, ∀ v36, Q ⟨c, v2, v12, v13, v25, v36⟩) ⊢ wp frame (wpE (defs₀ (F := F)) 𝒱₀ (c : Thread nD τ) none) Set.univ (on k0_part1) Q := by
  simp only [on, k0_part1_eq_skeleton]; unfold k0_part1_skel
  simp only [Prog.lift, Prog.bind_op, Prog.bind_ret, Prog.pure_eq_ret, wp_deviceId]
  iintro Hk
  rw [wp_ret]; imodintro; iapply Hk

theorem part2 (v2 v13 v25 v36 : BitVec 32) {Q : (Σ' (v37 : BitVec 32), BitVec 32) → sProp 𝕄} :
    ctx X K ⊢ iprop(tok (nb 0 c) .bar 0 -∗ tok (nb 1 c) .bar 1 -∗ tok (nb 2 c) .bar 2
      -∗ payS X (nb 0 c) .bar 0 -∗ payS X (nb 1 c) .bar 1 -∗ payS X (nb 2 c) .bar 2
      -∗ due c .bar -∗ owN c 0 -∗ go c .z1 -∗ sndPay X c .z1
      -∗ (∀ r, (landR c ∗ landL c ∗ lnd c .zta ∗ lnd c .ztb ∗ lnd c .zba ∗ lnd c .zbb ∗ lnd c .z3t ∗ lnd c .z3b
          ∗ fin c .bar ∗ owN c 4 ∗ sent c .z1) -∗ Q r)
      -∗ wp frame (wpE (defs₀ (F := F)) 𝒱₀ (c : Thread nD τ) none) Set.univ (on k0_part2 c v2 v13 v25 v36) Q) := by
  simp only [on, k0_part2_eq_skeleton]; unfold k0_part2_skel
  simp only [semSignalWord, semWaitWord, Prog.lift, Prog.bind_op, Prog.bind_ret, Prog.pure_eq_ret]
  iintro #HC T0 T1 T2 P0 P1 P2 Hb HO Hg Hx Hk
  iapply (do_signal X K c .bar 0 0 (by decide) (dev1_eq c) rfl rfl (by decide) 0 rfl rfl) $$ HC T0 P0 HO; iintro HO
  iapply (do_signal X K c .bar 1 1 (by decide) (dev2_eq c) rfl rfl (by decide) 1 rfl rfl) $$ HC T1 P1 HO; iintro HO
  iapply (do_signal X K c .bar 2 2 (by decide) (dev3_eq c) rfl rfl (by decide) 2 rfl rfl) $$ HC T2 P2 HO; iintro HO
  iapply (do_wait X K c .bar rfl (by decide) 3 (by decide)) $$ HC Hb HO; iintro ⟨HO, Hf, Hp⟩
  ihave Hp := (got_bar X c) $$ Hp
  icases Hp with ⟨HR, HL, HP⟩
  dsimp only [landP]
  icases HP with ⟨L0, L1, L2, L3, L4, L5, L6⟩
  iapply (do_send X K c .z1 (x_z1 X c) (dev4_eq c) rfl rfl 3 rfl rfl rfl) $$ HC Hx L0 HO Hg; iintro ⟨Hs, HO⟩
  rw [wp_ret]; imodintro; iapply Hk
  isplitl [HR]; · iexact HR
  isplitl [HL]; · iexact HL
  isplitl [L1]; · iexact L1
  isplitl [L2]; · iexact L2
  isplitl [L3]; · iexact L3
  isplitl [L4]; · iexact L4
  isplitl [L5]; · iexact L5
  isplitl [L6]; · iexact L6
  isplitl [Hf]; · iexact Hf
  isplitl [HO]; · iexact HO
  iexact Hs

theorem part3 (v2 v25 v37 : BitVec 32) {Q : PUnit → sProp 𝕄} :
    ctx X K ⊢ iprop(go c .r1 -∗ sndPay X c .r1 -∗ lnd c .r1 -∗ go c .l1 -∗ sndPay X c .l1 -∗ lnd c .l1
      -∗ xR X c -∗ wP Wt c -∗ outP X Wt c [] -∗ due c (.rcv .r1) -∗ owN c 4
      -∗ ((sent c .r1 ∗ sent c .l1 ∗ xR X c ∗ wP Wt c ∗ outP X Wt c [0] ∗ fin c (.rcv .r1) ∗ sndPay X c .r2a ∗ sndPay X c .r2b ∗ r0R X c ∗ owN c 6) -∗ Q ⟨⟩)
      -∗ wp frame (wpE (defs₀ (F := F)) 𝒱₀ (c : Thread nD τ) none) Set.univ (on k0_part3 c v2 v25 v37) Q) := by
  simp only [on, k0_part3_eq_skeleton]; unfold k0_part3_skel
  simp only [semSignalWord, semWaitWord, Prog.lift, Prog.bind_op, Prog.bind_ret, Prog.pure_eq_ret]
  iintro #HC Hg1 Hs1 Hl1 Hg2 Hs2 Hl2 Hx Hw Ho Hd HO Hk
  iapply (do_send X K c .r1 (x_r1 X c) (dev5_eq c) rfl rfl 4 rfl rfl rfl) $$ HC Hs1 Hl1 HO Hg1; iintro ⟨Hs1, HO⟩
  iapply (do_send X K c .l1 (x_l1 X c) (dev6_eq c) rfl rfl 5 rfl rfl rfl) $$ HC Hs2 Hl2 HO Hg2; iintro ⟨Hs2, HO⟩
  iapply (ld_x X c) $$ Hx; iintro Hx
  iapply (step_loadW Wt c) $$ Hw; iintro Hw
  iapply (step_put X Wt c 0 [] (by decide) rfl (off1_eq c) HEq.rfl) $$ Ho; iintro Ho
  iapply (do_recv X K c .r1 rfl rfl 6 (by decide)) $$ HC Hd HO; iintro ⟨HO, Hf, Hp⟩
  ihave Hp := (sp_r1 X c).1 $$ Hp
  icases Hp with ⟨⟨A, B⟩, C⟩
  rw [wp_ret]; imodintro; iapply Hk
  iframe

end Parts

end Cert.KernelIdeal.Sched

end
-- ==== Proof.PartsB.lean ====
/- The parts that send on what the first transfers brought. -/
module

public import proofs.«01_k».proof.Proof.PartsA

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts
variable (X : Dev nD → S512x4096.Idx → Elt F .f32) (Wt : Dev nD → S4096x256.Idx → Elt F .f32) (K : Dev nD × CellIx → ℕ) (c : Dev nD)

theorem part4 (v25 v37 : BitVec 32) {Q : PUnit → sProp 𝕄} :
    ctx X K ⊢ iprop(due c (.rcv .l1) -∗ go c .r2a -∗ sndPay X c .r2a -∗ lnd c .r2a -∗ owN c 6
      -∗ ((fin c (.rcv .l1) ∗ sndPay X c .l2a ∗ sndPay X c .l2b ∗ l0R X c ∗ sent c .r2a ∗ owN c 7) -∗ Q ⟨⟩)
      -∗ wp frame (wpE (defs₀ (F := F)) 𝒱₀ (c : Thread nD τ) none) Set.univ (on k0_part4 c v25 v37) Q) := by
  simp only [on, k0_part4_eq_skeleton]; unfold k0_part4_skel
  simp only [semSignalWord, semWaitWord, Prog.lift, Prog.bind_op, Prog.bind_ret, Prog.pure_eq_ret]
  iintro #HC Hd Hg Hs Hl HO Hk
  iapply (do_recv X K c .l1 rfl rfl 6 (by decide)) $$ HC Hd HO; iintro ⟨HO, Hf, Hp⟩
  ihave Hp := (sp_l1 X c).1 $$ Hp
  icases Hp with ⟨⟨A, B⟩, C⟩
  iapply (do_send X K c .r2a (x_r2a X c) (dev7_eq c) rfl rfl 6 rfl rfl rfl) $$ HC Hs Hl HO Hg; iintro ⟨Hs, HO⟩
  rw [wp_ret]; imodintro; iapply Hk; iframe

theorem part5 (v37 : BitVec 32) {Q : PUnit → sProp 𝕄} :
    ctx X K ⊢ iprop(go c .r2b -∗ sndPay X c .r2b -∗ lnd c .r2b -∗ go c .l2a -∗ sndPay X c .l2a -∗ lnd c .l2a -∗ owN c 7
      -∗ ((sent c .r2b ∗ sent c .l2a ∗ owN c 9) -∗ Q ⟨⟩)
      -∗ wp frame (wpE (defs₀ (F := F)) 𝒱₀ (c : Thread nD τ) none) Set.univ (on k0_part5 c v37) Q) := by
  simp only [on, k0_part5_eq_skeleton]; unfold k0_part5_skel
  simp only [semSignalWord, semWaitWord, Prog.lift, Prog.bind_op, Prog.bind_ret, Prog.pure_eq_ret]
  iintro #HC Hg1 Hs1 Hl1 Hg2 Hs2 Hl2 HO Hk
  iapply (do_send X K c .r2b (x_r2b X c) (dev8_eq c) rfl rfl 7 rfl rfl rfl) $$ HC Hs1 Hl1 HO Hg1; iintro ⟨Hs1, HO⟩
  iapply (do_send X K c .l2a (x_l2a X c) (dev9_eq c) rfl rfl 8 rfl rfl rfl) $$ HC Hs2 Hl2 HO Hg2; iintro ⟨Hs2, HO⟩
  rw [wp_ret]; imodintro; iapply Hk; iframe

theorem part6 (v25 v37 v48 : BitVec 32) {Q : PUnit → sProp 𝕄} :
    ctx X K ⊢ iprop(go c .l2b -∗ sndPay X c .l2b -∗ lnd c .l2b -∗ due c (.rcv .z1) -∗ go c .pr1 -∗ lnd c .pr1 -∗ go c .pl1 -∗ lnd c .pl1 -∗ sent c .z1 -∗ owN c 9
      -∗ ((sent c .l2b ∗ fin c (.rcv .z1) ∗ pR X c ∗ sent c .pr1 ∗ sent c .pl1 ∗ fin c (.snd .z1) ∗ sndPay X c .z1 ∗ owN c 12) -∗ Q ⟨⟩)
      -∗ wp frame (wpE (defs₀ (F := F)) 𝒱₀ (c : Thread nD τ) none) Set.univ (on k0_part6 c v25 v37 v48) Q) := by
  simp only [on, k0_part6_eq_skeleton]; unfold k0_part6_skel
  simp only [semSignalWord, semWaitWord, Prog.lift, Prog.bind_op, Prog.bind_ret, Prog.pure_eq_ret]
  iintro #HC Hg1 Hs1 Hl1 Hd Hg2 Hl2 Hg3 Hl3 Hz HO Hk
  iapply (do_send X K c .l2b (x_l2b X c) (dev10_eq c) rfl rfl 9 rfl rfl rfl) $$ HC Hs1 Hl1 HO Hg1; iintro ⟨Hs1, HO⟩
  iapply (do_recv X K c .z1 rfl rfl 10 (by decide)) $$ HC Hd HO; iintro ⟨HO, Hf, Hp⟩
  ihave Hp := (sp_z1 X c).1 $$ Hp
  icases Hp with ⟨⟨A, B⟩, C⟩
  iapply (do_send X K c .pr1 (x_pr1 X c) (dev11_eq c) rfl rfl 10 rfl rfl rfl) $$ HC A Hl2 HO Hg2; iintro ⟨Hs2, HO⟩
  iapply (do_send X K c .pl1 (x_pl1 X c) (dev12_eq c) rfl rfl 11 rfl rfl rfl) $$ HC B Hl3 HO Hg3; iintro ⟨Hs3, HO⟩
  iapply (do_sent X K c .z1 rfl rfl 12 (by decide)) $$ HC Hz HO; iintro ⟨HO, Hf', Hp⟩
  rw [wp_ret]; imodintro; iapply Hk; iframe

theorem part7 (v25 v48 : BitVec 32) {Q : PUnit → sProp 𝕄} :
    ctx X K ⊢ iprop(due c (.rcv .r2a) -∗ go c .zta -∗ lnd c .zta -∗ due c (.rcv .r2b) -∗ owN c 12
      -∗ ((fin c (.rcv .r2a) ∗ raR X c ∗ sent c .zta ∗ fin c (.rcv .r2b) ∗ sndPay X c .ztb ∗ rbR X c ∗ owN c 13) -∗ Q ⟨⟩)
      -∗ wp frame (wpE (defs₀ (F := F)) 𝒱₀ (c : Thread nD τ) none) Set.univ (on k0_part7 c v25 v48) Q) := by
  simp only [on, k0_part7_eq_skeleton]; unfold k0_part7_skel
  simp only [semSignalWord, semWaitWord, Prog.lift, Prog.bind_op, Prog.bind_ret, Prog.pure_eq_ret]
  iintro #HC Hd Hg Hl Hd' HO Hk
  iapply (do_recv X K c .r2a rfl rfl 12 (by decide)) $$ HC Hd HO; iintro ⟨HO, Hf, Hp⟩
  ihave Hp := (sp_r2a X c).1 $$ Hp
  icases Hp with ⟨A, B⟩
  iapply (do_send X K c .zta (x_zta X c) (dev13_eq c) rfl rfl 12 rfl rfl rfl) $$ HC A Hl HO Hg; iintro ⟨Hs, HO⟩
  iapply (do_recv X K c .r2b rfl rfl 13 (by decide)) $$ HC Hd' HO; iintro ⟨HO, Hf', Hp⟩
  ihave Hp := (sp_r2b X c).1 $$ Hp
  icases Hp with ⟨A', B'⟩
  rw [wp_ret]; imodintro; iapply Hk; iframe

theorem part8 (v37 v48 : BitVec 32) {Q : PUnit → sProp 𝕄} :
    ctx X K ⊢ iprop(go c .ztb -∗ sndPay X c .ztb -∗ lnd c .ztb -∗ due c (.rcv .l2a) -∗ go c .zba -∗ lnd c .zba -∗ owN c 13
      -∗ ((sent c .ztb ∗ fin c (.rcv .l2a) ∗ laR X c ∗ sent c .zba ∗ owN c 15) -∗ Q ⟨⟩)
      -∗ wp frame (wpE (defs₀ (F := F)) 𝒱₀ (c : Thread nD τ) none) Set.univ (on k0_part8 c v37 v48) Q) := by
  simp only [on, k0_part8_eq_skeleton]; unfold k0_part8_skel
  simp only [semSignalWord, semWaitWord, Prog.lift, Prog.bind_op, Prog.bind_ret, Prog.pure_eq_ret]
  iintro #HC Hg1 Hs1 Hl1 Hd Hg2 Hl2 HO Hk
  iapply (do_send X K c .ztb (x_ztb X c) (dev14_eq c) rfl rfl 13 rfl rfl rfl) $$ HC Hs1 Hl1 HO Hg1; iintro ⟨Hs1, HO⟩
  iapply (do_recv X K c .l2a rfl rfl 14 (by decide)) $$ HC Hd HO; iintro ⟨HO, Hf, Hp⟩
  ihave Hp := (sp_l2a X c).1 $$ Hp
  icases Hp with ⟨A, B⟩
  iapply (do_send X K c .zba (x_zba X c) (dev15_eq c) rfl rfl 14 rfl rfl rfl) $$ HC A Hl2 HO Hg2; iintro ⟨Hs2, HO⟩
  rw [wp_ret]; imodintro; iapply Hk; iframe

theorem part9 (v12 v13 v48 : BitVec 32) {Q : (Σ' (v248 : BitVec 32), BitVec 32) → sProp 𝕄} :
    ctx X K ⊢ iprop(due c (.rcv .l2b) -∗ go c .zbb -∗ lnd c .zbb -∗ pR X c -∗ wP Wt c -∗ outP X Wt c [0] -∗ owN c 15
      -∗ (∀ r, (fin c (.rcv .l2b) ∗ lbR X c ∗ sent c .zbb ∗ pR X c ∗ wP Wt c ∗ outP X Wt c [1, 0] ∗ owN c 16) -∗ Q r)
      -∗ wp frame (wpE (defs₀ (F := F)) 𝒱₀ (c : Thread nD τ) none) Set.univ (on k0_part9 c v12 v13 v48) Q) := by
  simp only [on, k0_part9_eq_skeleton]; unfold k0_part9_skel
  simp only [semSignalWord, semWaitWord, Prog.lift, Prog.bind_op, Prog.bind_ret, Prog.pure_eq_ret]
  iintro #HC Hd Hg Hl Hp Hw Ho HO Hk
  iapply (do_recv X K c .l2b rfl rfl 15 (by decide)) $$ HC Hd HO; iintro ⟨HO, Hf, Hr⟩
  ihave Hr := (sp_l2b X c).1 $$ Hr
  icases Hr with ⟨A, B⟩
  iapply (do_send X K c .zbb (x_zbb X c) (dev16_eq c) rfl rfl 15 rfl rfl rfl) $$ HC A Hl HO Hg; iintro ⟨Hs, HO⟩
  iapply (ld_p X c) $$ Hp; iintro Hp
  iapply (step_loadW Wt c) $$ Hw; iintro Hw
  iapply (step_put X Wt c 1 [0] (by decide) rfl (off2_eq c) HEq.rfl) $$ Ho; iintro Ho
  rw [wp_ret]; imodintro; iapply Hk; iframe

theorem part10 (v12 v13 v248 w : BitVec 32) {Q : PUnit → sProp 𝕄} :
    iprop(r0R X c ∗ l0R X c ∗ wP Wt c ∗ outP X Wt c [1, 0])
      ⊢ iprop(((r0R X c ∗ l0R X c ∗ wP Wt c ∗ outP X Wt c [3, 2, 1, 0]) -∗ Q ⟨⟩) -∗ wp frame (wpE (defs₀ (F := F)) 𝒱₀ (c : Thread nD τ) none) Set.univ (on k0_part10 c v12 v13 v248 w) Q) := by
  simp only [on, k0_part10_eq_skeleton]; unfold k0_part10_skel
  simp only [semSignalWord, semWaitWord, Prog.lift, Prog.bind_op, Prog.bind_ret, Prog.pure_eq_ret]
  iintro ⟨Hr, Hl, Hw, Ho⟩ Hk
  iapply (ld_r0 X c) $$ Hr; iintro Hr
  iapply (step_loadW Wt c) $$ Hw; iintro Hw
  iapply (step_put X Wt c 2 [1, 0] (by decide) rfl (off3_eq1 c) HEq.rfl) $$ Ho; iintro Ho
  iapply (ld_l0 X c) $$ Hl; iintro Hl
  iapply (step_loadW Wt c) $$ Hw; iintro Hw
  iapply (step_put X Wt c 3 [2, 1, 0] (by decide) rfl (off4_eq1 c) HEq.rfl) $$ Ho; iintro Ho
  rw [wp_ret]; imodintro; iapply Hk; iframe

theorem part11 {Q : PUnit → sProp 𝕄} :
    ctx X K ⊢ iprop(sent c .r1 -∗ sent c .l1 -∗ sent c .r2a -∗ owN c 16
      -∗ ((fin c (.snd .r1) ∗ sndPay X c .r1 ∗ fin c (.snd .l1) ∗ sndPay X c .l1 ∗ fin c (.snd .r2a) ∗ sndPay X c .r2a ∗ owN c 16) -∗ Q ⟨⟩)
      -∗ wp frame (wpE (defs₀ (F := F)) 𝒱₀ (c : Thread nD τ) none) Set.univ (on k0_part11) Q) := by
  simp only [on, k0_part11_eq_skeleton]; unfold k0_part11_skel
  simp only [semSignalWord, semWaitWord, Prog.lift, Prog.bind_op, Prog.bind_ret, Prog.pure_eq_ret]
  iintro #HC H1 H2 H3 HO Hk
  iapply (do_sent X K c .r1 rfl rfl 16 (by decide)) $$ HC H1 HO; iintro ⟨HO, Hf1, Hp1⟩
  iapply (do_sent X K c .l1 rfl rfl 16 (by decide)) $$ HC H2 HO; iintro ⟨HO, Hf2, Hp2⟩
  iapply (do_sent X K c .r2a rfl rfl 16 (by decide)) $$ HC H3 HO; iintro ⟨HO, Hf3, Hp3⟩
  rw [wp_ret]; imodintro; iapply Hk; iframe

end Parts

end Cert.KernelIdeal.Sched

end
-- ==== Proof.PartsC.lean ====
/- The parts around the credits. -/
module

public import proofs.«01_k».proof.Proof.PartsB

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credits -/

section Parts
variable (X : Dev nD → S512x4096.Idx → Elt F .f32) (Wt : Dev nD → S4096x256.Idx → Elt F .f32) (K : Dev nD × CellIx → ℕ) (c : Dev nD)

omit [FloatOps F] in
theorem fin_r1 : (fin (F := F) c (.rcv .r1) : sProp 𝕄) ⊢ iprop(at_ c (.rcv .r3) ∗ reached ER (cell c (.rcv .r3)) 1) := .rfl
omit [FloatOps F] in
theorem fin_l1 : (fin (F := F) c (.rcv .l1) : sProp 𝕄) ⊢ iprop(at_ c (.rcv .l3) ∗ reached ER (cell c (.rcv .l3)) 1) := .rfl
omit [FloatOps F] in
theorem fin_sr1 : iprop(tx (F := F) c .r3 ∗ fin c (.snd .r1)) ⊢ iprop(go c .r3 ∗ rch c (.snd .r3)) := by
  show iprop(_ ∗ at_ c (.snd .r3) ∗ rch c (.snd .r3)) ⊢ iprop((_ ∗ at_ c (.snd .r3)) ∗ _)
  iintro ⟨A, B, C⟩
  isplitr [C]
  · isplitl [A]; · iexact A
    iexact B
  iexact C
omit [FloatOps F] in
theorem fin_sl1 : iprop(tx (F := F) c .l3 ∗ fin c (.snd .l1)) ⊢ iprop(go c .l3 ∗ rch c (.snd .l3)) := by
  show iprop(_ ∗ at_ c (.snd .l3) ∗ rch c (.snd .l3)) ⊢ iprop((_ ∗ at_ c (.snd .l3)) ∗ _)
  iintro ⟨A, B, C⟩
  isplitr [C]
  · isplitl [A]; · iexact A
    iexact B
  iexact C

/-- A device's first slot, free again, and its arrival semaphore in the second round, are its left neighbour's credit; -/
theorem give_crd0 : iprop(sndPay X c .r2a ∗ sndPay X c .r2b ∗ r0R X c ∗ reached ER (cell c (.rcv .r3)) 1) ⊢ payS X (nb 0 c) (.crd 0) 0 := by
  show _ ⊢ crdPay (lf c) 0
  dsimp only [crdPay]
  rw [rt_lf]
  iintro ⟨A, B, C, Hr⟩
  isplitr [Hr]
  · iapply (show rcvPay X c .r1 ⊢ any c bOr (rows3 0 0 256) from any_of)
    iapply (sp_r1 X c).2
    isplitr [C]
    · isplitl [A]; · iexact A
      iexact B
    iexact C
  iexact Hr
/-- the other ring's, its right neighbour's. -/
theorem give_crd1 : iprop(sndPay X c .l2a ∗ sndPay X c .l2b ∗ l0R X c ∗ reached ER (cell c (.rcv .l3)) 1) ⊢ payS X (nb 1 c) (.crd 1) 0 := by
  show _ ⊢ crdPay (rt c) 1
  dsimp only [crdPay]
  rw [lf_rt]
  iintro ⟨A, B, C, Hr⟩
  isplitr [Hr]
  · iapply (show rcvPay X c .l1 ⊢ any c bOl (rows3 0 0 256) from any_of)
    iapply (sp_l1 X c).2
    isplitr [C]
    · isplitl [A]; · iexact A
      iexact B
    iexact C
  iexact Hr
omit [FloatOps F] in
/-- The relays' landing rows likewise. -/
theorem give_crd2 : any (F := F) c bPr (rows2 256 88 256) ⊢ payS X (nb 0 c) (.crd 2) 0 := by
  show _ ⊢ crdPay (lf c) 2
  dsimp only [crdPay]
  rw [rt_lf]
omit [FloatOps F] in
theorem give_crd3 : any (F := F) c bPl (rows2 256 88 256) ⊢ payS X (nb 1 c) (.crd 3) 0 := by
  show _ ⊢ crdPay (rt c) 3
  dsimp only [crdPay]
  rw [lf_rt]
omit [FloatOps F] in
/-- What a credit brings. -/
theorem got_crd (i : Fin 4) : bigSep (dutiesS (.crd i)) (fun d => payS X c (.crd i) d) ⊢ (crdPay c i : sProp 𝕄) :=
  (show dutiesS (.crd i) = {0} from rfl) ▸ Entails.of_eq bigSep_singleton

omit [FloatOps F] in
theorem got_crd0 : bigSep (dutiesS (.crd 0)) (fun d => payS X c (.crd 0) d) ⊢ (iprop(lnd c .r3 ∗ rch (dst .r3 c) (.rcv .r3)) : sProp 𝕄) := got_crd X c 0
omit [FloatOps F] in
theorem got_crd1 : bigSep (dutiesS (.crd 1)) (fun d => payS X c (.crd 1) d) ⊢ (iprop(lnd c .l3 ∗ rch (dst .l3 c) (.rcv .l3)) : sProp 𝕄) := got_crd X c 1
omit [FloatOps F] in
theorem got_crd2 : bigSep (dutiesS (.crd 2)) (fun d => payS X c (.crd 2) d) ⊢ (lnd c .pr3 : sProp 𝕄) := got_crd X c 2
omit [FloatOps F] in
theorem got_crd3 : bigSep (dutiesS (.crd 3)) (fun d => payS X c (.crd 3) d) ⊢ (lnd c .pl3 : sProp 𝕄) := got_crd X c 3

theorem part12 (v37 : BitVec 32) {Q : PUnit → sProp 𝕄} :
    ctx X K ⊢ iprop(sent c .r2b -∗ sent c .l2a -∗ sent c .l2b -∗ sndPay X c .r2a -∗ r0R X c -∗ reached ER (cell c (.rcv .r3)) 1 -∗ tok (nb 0 c) (.crd 0) 0 -∗ owN c 16
      -∗ ((fin c (.snd .r2b) ∗ fin c (.snd .l2a) ∗ sndPay X c .l2a ∗ fin c (.snd .l2b) ∗ sndPay X c .l2b ∗ owN c 17) -∗ Q ⟨⟩)
      -∗ wp frame (wpE (defs₀ (F := F)) 𝒱₀ (c : Thread nD τ) none) Set.univ (on k0_part12 c v37) Q) := by
  simp only [on, k0_part12_eq_skeleton]; unfold k0_part12_skel
  simp only [semSignalWord, semWaitWord, Prog.lift, Prog.bind_op, Prog.bind_ret, Prog.pure_eq_ret]
  iintro #HC H1 H2 H3 A C Hr Ht HO Hk
  iapply (do_sent X K c .r2b rfl rfl 16 (by decide)) $$ HC H1 HO; iintro ⟨HO, Hf1, B⟩
  iapply (do_sent X K c .l2a rfl rfl 16 (by decide)) $$ HC H2 HO; iintro ⟨HO, Hf2, Hp2⟩
  iapply (do_sent X K c .l2b rfl rfl 16 (by decide)) $$ HC H3 HO; iintro ⟨HO, Hf3, Hp3⟩
  ihave HP := (give_crd0 X c) $$ [A B C Hr]
  · iframe
  iapply (do_signal X K c (.crd 0) 0 0 (by decide) (dev17_eq c) rfl rfl (by decide) 16 rfl rfl) $$ HC Ht HP HO; iintro HO
  rw [wp_ret]; imodintro; iapply Hk; iframe

theorem part13 (v12 v25 v37 : BitVec 32) {Q : (Σ' (v348 : BitVec 32) (c4_i32_373 : BitVec 32) (v349 : BitVec 1), BitVec 32) → sProp 𝕄} :
    ctx X K ⊢ iprop(sndPay X c .l2a -∗ sndPay X c .l2b -∗ l0R X c -∗ reached ER (cell c (.rcv .l3)) 1 -∗ tok (nb 1 c) (.crd 1) 0 -∗ due c (.crd 0) -∗ due c (.crd 1)
      -∗ tx c .r3 -∗ tx c .l3 -∗ fin c (.snd .r1) -∗ fin c (.snd .l1) -∗ raR X c -∗ rbR X c -∗ laR X c -∗ lbR X c -∗ owN c 17
      -∗ (∀ r, (fin c (.crd 0) ∗ fin c (.crd 1) ∗ sent c .r3 ∗ sent c .l3 ∗ r1R X c ∗ l1R X c ∗ owN c 20) -∗ Q r)
      -∗ wp frame (wpE (defs₀ (F := F)) 𝒱₀ (c : Thread nD τ) none) Set.univ (on k0_part13 c v12 v25 v37) Q) := by
  simp only [on, k0_part13_eq_skeleton]; unfold k0_part13_skel
  simp only [semSignalWord, semWaitWord, Prog.lift, Prog.bind_op, Prog.bind_ret, Prog.pure_eq_ret]
  iintro #HC A B C Hr Ht Hd0 Hd1 Hx3 Hy3 Hf1 Hf2 Ra Rb La Lb HO Hk
  ihave HP := (give_crd1 X c) $$ [A B C Hr]
  · iframe
  iapply (do_signal X K c (.crd 1) 1 0 (by decide) (dev18_eq c) rfl rfl (by decide) 17 rfl rfl) $$ HC Ht HP HO; iintro HO
  iapply (do_wait X K c (.crd 0) rfl (by decide) 18 (by decide)) $$ HC Hd0 HO; iintro ⟨HO, Hf0, Hp⟩
  ihave Hp := (got_crd0 X c) $$ Hp
  icases Hp with ⟨Ld, Hrr⟩
  iapply (do_wait X K c (.crd 1) rfl (by decide) 18 (by decide)) $$ HC Hd1 HO; iintro ⟨HO, Hf3, Hp⟩
  ihave Hp := (got_crd1 X c) $$ Hp
  icases Hp with ⟨Ll, Hrl⟩
  ihave HR := (sp_r2 X c).1 $$ [Ra Rb]
  · iframe
  icases HR with ⟨Hs, HR⟩
  ihave HL := (sp_l2 X c).1 $$ [La Lb]
  · iframe
  icases HL with ⟨Hs', HL⟩
  ihave Hf1 := (fin_sr1 c) $$ [Hx3 Hf1]
  · iframe
  icases Hf1 with ⟨Ha1, Hq1⟩
  ihave Hf2 := (fin_sl1 c) $$ [Hy3 Hf2]
  · iframe
  icases Hf2 with ⟨Ha2, Hq2⟩
  iapply (do_send' X K c .r3 (x_r3 X c) (dev19_eq c) rfl rfl 18 rfl) $$ HC Hq1 Hrr Hs Ld HO Ha1
  iintro ⟨Hs, HO⟩
  iapply (do_send' X K c .l3 (x_l3 X c) (dev20_eq c) rfl rfl 19 rfl) $$ HC Hq2 Hrl Hs' Ll HO Ha2
  iintro ⟨Hs', HO⟩
  rw [wp_ret]; imodintro; iapply Hk; iframe

theorem part14 (v12 v13 v348 w : BitVec 32) (v349 : BitVec 1) (w' : BitVec 32) {Q : (Σ' (v383 : BitVec 32), FVec F S256x4096 .f32) → sProp 𝕄} :
    iprop(r1R X c ∗ l1R X c ∗ wP Wt c ∗ outP X Wt c [3, 2, 1, 0])
      ⊢ iprop((∀ v, (r1R X c ∗ l1R X c ∗ wP Wt c ∗ outP X Wt c [4, 3, 2, 1, 0]) -∗ Q ⟨v, k0_pay6 (c1 X (rt (rt c)) 256)⟩)
        -∗ wp frame (wpE (defs₀ (F := F)) 𝒱₀ (c : Thread nD τ) none) Set.univ (on k0_part14 c v12 v13 v348 w v349 w') Q) := by
  simp only [on, k0_part14_eq_skeleton]; unfold k0_part14_skel
  simp only [semSignalWord, semWaitWord, Prog.lift, Prog.bind_op, Prog.bind_ret, Prog.pure_eq_ret]
  iintro ⟨Hr, Hl, Hw, Ho⟩ Hk
  iapply (ld_r1 X c) $$ Hr; iintro Hr
  iapply (step_loadW Wt c) $$ Hw; iintro Hw
  iapply (step_put X Wt c 4 [3, 2, 1, 0] (by decide) rfl (off3_eq2 c) HEq.rfl) $$ Ho; iintro Ho
  iapply (ld_l1 X c) $$ Hl; iintro Hl
  rw [wp_ret]; imodintro; iapply Hk; iframe

theorem part15 (v12 v25 v37 v383 : BitVec 32) {Q : (Σ' (v409 : BitVec 32) (c4_i32_425 : BitVec 32) (v410 : BitVec 1), BitVec 32) → sProp 𝕄} :
    ctx X K ⊢ iprop(wP Wt c -∗ outP X Wt c [4, 3, 2, 1, 0] -∗ due c (.rcv .pr1) -∗ due c (.rcv .pl1) -∗ sent c .pr1 -∗ sent c .pl1 -∗ owN c 20
      -∗ (∀ r, (wP Wt c ∗ outP X Wt c [5, 4, 3, 2, 1, 0] ∗ fin c (.rcv .pr1) ∗ rcvPay X c .pr1 ∗ fin c (.rcv .pl1) ∗ rcvPay X c .pl1
          ∗ fin c (.snd .pr1) ∗ sndPay X c .pr1 ∗ fin c (.snd .pl1) ∗ sndPay X c .pl1 ∗ owN c 20) -∗ Q r)
      -∗ wp frame (wpE (defs₀ (F := F)) 𝒱₀ (c : Thread nD τ) none) Set.univ (on k0_part15 c v12 v25 v37 v383 (k0_pay6 (c1 X (rt (rt c)) 256))) Q) := by
  simp only [on, k0_part15_eq_skeleton]; unfold k0_part15_skel
  simp only [semSignalWord, semWaitWord, Prog.lift, Prog.bind_op, Prog.bind_ret, Prog.pure_eq_ret]
  iintro #HC Hw Ho H1 H2 H3 H4 HO Hk
  iapply (step_loadW Wt c) $$ Hw; iintro Hw
  iapply (step_put X Wt c 5 [4, 3, 2, 1, 0] (by decide) rfl (off4_eq2 c) HEq.rfl) $$ Ho; iintro Ho
  iapply (do_recv X K c .pr1 rfl rfl 20 (by decide)) $$ HC H1 HO; iintro ⟨HO, Hf1, Hp1⟩
  iapply (do_recv X K c .pl1 rfl rfl 20 (by decide)) $$ HC H2 HO; iintro ⟨HO, Hf2, Hp2⟩
  iapply (do_sent X K c .pr1 rfl rfl 20 (by decide)) $$ HC H3 HO; iintro ⟨HO, Hf3, Hp3⟩
  iapply (do_sent X K c .pl1 rfl rfl 20 (by decide)) $$ HC H4 HO; iintro ⟨HO, Hf4, Hp4⟩
  rw [wp_ret]; imodintro; iapply Hk; iframe

theorem part16 (v12 v13 v409 w : BitVec 32) (v410 : BitVec 1) (w' : BitVec 32) {Q : (Σ' (v443 : BitVec 32) (v444 : BitVec 32) (v445 : BitVec 1), BitVec 1) → sProp 𝕄} :
    iprop(rcvPay X c .pr1 ∗ wP Wt c ∗ outP X Wt c [5, 4, 3, 2, 1, 0])
      ⊢ iprop((∀ r, (rcvPay X c .pr1 ∗ wP Wt c ∗ outP X Wt c [6, 5, 4, 3, 2, 1, 0]) -∗ Q r) -∗ wp frame (wpE (defs₀ (F := F)) 𝒱₀ (c : Thread nD τ) none) Set.univ (on k0_part16 c v12 v13 v409 w v410 w') Q) := by
  simp only [on, k0_part16_eq_skeleton]; unfold k0_part16_skel
  simp only [semSignalWord, semWaitWord, Prog.lift, Prog.bind_op, Prog.bind_ret, Prog.pure_eq_ret]
  iintro ⟨Hr, Hw, Ho⟩ Hk
  iapply (ld_pr1 X c) $$ Hr; iintro Hr
  iapply (step_loadW Wt c) $$ Hw; iintro Hw
  iapply (step_put X Wt c 6 [5, 4, 3, 2, 1, 0] (by decide) rfl (off5_eq c) HEq.rfl) $$ Ho; iintro Ho
  rw [wp_ret]; imodintro; iapply Hk; iframe

theorem part17 (v13 v25 v37 v48 v443 v444 : BitVec 32) (v445 v446 : BitVec 1) {Q : (Σ' (v478 : BitVec 32), BitVec 32) → sProp 𝕄} :
    ctx X K ⊢ iprop(rcvPay X c .pr1 -∗ rcvPay X c .pl1 -∗ wP Wt c -∗ outP X Wt c [6, 5, 4, 3, 2, 1, 0] -∗ tok (nb 0 c) (.crd 2) 0 -∗ tok (nb 1 c) (.crd 3) 0 -∗ owN c 20
      -∗ (∀ r, (any c bPr (rows2 256 0 88) ∗ any c bPl (rows2 256 0 88) ∗ wP Wt c ∗ outP X Wt c [7, 6, 5, 4, 3, 2, 1, 0] ∗ owN c 22) -∗ Q r)
      -∗ wp frame (wpE (defs₀ (F := F)) 𝒱₀ (c : Thread nD τ) none) Set.univ (on k0_part17 c v13 v25 v37 v48 v443 v444 v445 v446) Q) := by
  simp only [on, k0_part17_eq_skeleton]; unfold k0_part17_skel
  simp only [semSignalWord, semWaitWord, Prog.lift, Prog.bind_op, Prog.bind_ret, Prog.pure_eq_ret]
  iintro #HC Hr Hl Hw Ho Ht2 Ht3 HO Hk
  iapply (ld_pl1 X c) $$ Hl; iintro Hl
  iapply (step_loadW Wt c) $$ Hw; iintro Hw
  iapply (step_put X Wt c 7 [6, 5, 4, 3, 2, 1, 0] (by decide) rfl (off6_eq1 c) HEq.rfl) $$ Ho; iintro Ho
  ihave Hr := (sp_pr X c) $$ Hr
  icases Hr with ⟨Hr, Hr'⟩
  ihave Hl := (sp_pl X c) $$ Hl
  icases Hl with ⟨Hl, Hl'⟩
  ihave Hr' := (give_crd2 X c) $$ Hr'
  ihave Hl' := (give_crd3 X c) $$ Hl'
  iapply (do_signal X K c (.crd 2) 0 0 (by decide) (dev21_eq c) rfl rfl (by decide) 20 rfl rfl) $$ HC Ht2 Hr' HO; iintro HO
  iapply (do_signal X K c (.crd 3) 1 0 (by decide) (dev22_eq c) rfl rfl (by decide) 21 rfl rfl) $$ HC Ht3 Hl' HO; iintro HO
  rw [wp_ret]; imodintro; iapply Hk; iframe

theorem part18 (v25 v48 v478 w : BitVec 32) {Q : PUnit → sProp 𝕄} :
    ctx X K ⊢ iprop(due c (.rcv .zta) -∗ due c (.rcv .ztb) -∗ due c (.crd 2) -∗ go c .pr3 -∗ owN c 22
      -∗ ((fin c (.rcv .zta) ∗ fin c (.rcv .ztb) ∗ fin c (.crd 2) ∗ dtR X c ∗ sent c .pr3 ∗ owN c 23) -∗ Q ⟨⟩)
      -∗ wp frame (wpE (defs₀ (F := F)) 𝒱₀ (c : Thread nD τ) none) Set.univ (on k0_part18 c v25 v48 v478 w) Q) := by
  simp only [on, k0_part18_eq_skeleton]; unfold k0_part18_skel
  simp only [semSignalWord, semWaitWord, Prog.lift, Prog.bind_op, Prog.bind_ret, Prog.pure_eq_ret]
  iintro #HC H1 H2 H3 Hg HO Hk
  iapply (do_recv X K c .zta rfl rfl 22 (by decide)) $$ HC H1 HO; iintro ⟨HO, Hf1, A⟩
  iapply (do_recv X K c .ztb rfl rfl 22 (by decide)) $$ HC H2 HO; iintro ⟨HO, Hf2, B⟩
  iapply (do_wait X K c (.crd 2) rfl (by decide) 22 (by decide)) $$ HC H3 HO; iintro ⟨HO, Hf3, Hp⟩
  ihave Hp := (got_crd2 X c) $$ Hp
  ihave HD := (sp_dt X c).1 $$ [A B]
  · iframe
  icases HD with ⟨Hs, HD⟩
  iapply (do_send X K c .pr3 (x_pr3 X c) (dev23_eq c) rfl rfl 22 rfl rfl rfl) $$ HC Hs Hp HO Hg; iintro ⟨Hs, HO⟩
  rw [wp_ret]; imodintro; iapply Hk; iframe

theorem part19 (v12 v13 v37 v48 : BitVec 32) {Q : (Σ' (v529 : BitVec 32), BitVec 32) → sProp 𝕄} :
    ctx X K ⊢ iprop(due c (.rcv .zba) -∗ due c (.rcv .zbb) -∗ due c (.crd 3) -∗ go c .pl3 -∗ owN c 23
      -∗ (∀ r, (fin c (.rcv .zba) ∗ fin c (.rcv .zbb) ∗ fin c (.crd 3) ∗ dbR X c ∗ sent c .pl3 ∗ owN c 24) -∗ Q r)
      -∗ wp frame (wpE (defs₀ (F := F)) 𝒱₀ (c : Thread nD τ) none) Set.univ (on k0_part19 c v12 v13 v37 v48) Q) := by
  simp only [on, k0_part19_eq_skeleton]; unfold k0_part19_skel
  simp only [semSignalWord, semWaitWord, Prog.lift, Prog.bind_op, Prog.bind_ret, Prog.pure_eq_ret]
  iintro #HC H1 H2 H3 Hg HO Hk
  iapply (do_recv X K c .zba rfl rfl 23 (by decide)) $$ HC H1 HO; iintro ⟨HO, Hf1, A⟩
  iapply (do_recv X K c .zbb rfl rfl 23 (by decide)) $$ HC H2 HO; iintro ⟨HO, Hf2, B⟩
  iapply (do_wait X K c (.crd 3) rfl (by decide) 23 (by decide)) $$ HC H3 HO; iintro ⟨HO, Hf3, Hp⟩
  ihave Hp := (got_crd3 X c) $$ Hp
  ihave HD := (sp_db X c).1 $$ [A B]
  · iframe
  icases HD with ⟨Hs, HD⟩
  iapply (do_send X K c .pl3 (x_pl3 X c) (dev24_eq c) rfl rfl 23 rfl rfl rfl) $$ HC Hs Hp HO Hg; iintro ⟨Hs, HO⟩
  rw [wp_ret]; imodintro; iapply Hk; iframe

end Parts

end Cert.KernelIdeal.Sched

end
-- ==== Proof.PartsD.lean ====
/- The last parts. -/
module

public import proofs.«01_k».proof.Proof.PartsC

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts
variable (X : Dev nD → S512x4096.Idx → Elt F .f32) (Wt : Dev nD → S4096x256.Idx → Elt F .f32) (K : Dev nD × CellIx → ℕ) (c : Dev nD)

theorem part20 (v25 v529 w : BitVec 32) {Q : (Σ' (v560 : BitVec 32), BitVec 32) → sProp 𝕄} :
    iprop(dtR X c ∗ dbR X c ∗ wP Wt c ∗ outP X Wt c [7, 6, 5, 4, 3, 2, 1, 0])
      ⊢ iprop((∀ r, (dtR X c ∗ dbR X c ∗ wP Wt c ∗ outP X Wt c [9, 8, 7, 6, 5, 4, 3, 2, 1, 0]) -∗ Q r) -∗ wp frame (wpE (defs₀ (F := F)) 𝒱₀ (c : Thread nD τ) none) Set.univ (on k0_part20 c v25 v529 w) Q) := by
  simp only [on, k0_part20_eq_skeleton]; unfold k0_part20_skel
  simp only [semSignalWord, semWaitWord, Prog.lift, Prog.bind_op, Prog.bind_ret, Prog.pure_eq_ret]
  iintro ⟨Hr, Hl, Hw, Ho⟩ Hk
  iapply (ld_dt X c) $$ Hr; iintro Hr
  iapply (step_loadW Wt c) $$ Hw; iintro Hw
  iapply (step_put X Wt c 8 [7, 6, 5, 4, 3, 2, 1, 0] (by decide) rfl (off7_eq c) HEq.rfl) $$ Ho; iintro Ho
  iapply (ld_db X c) $$ Hl; iintro Hl
  iapply (step_loadW Wt c) $$ Hw; iintro Hw
  iapply (step_put X Wt c 9 [8, 7, 6, 5, 4, 3, 2, 1, 0] (by decide) rfl (off6_eq2 c) HEq.rfl) $$ Ho; iintro Ho
  rw [wp_ret]; imodintro; iapply Hk; iframe

theorem part21 (v37 v560 w : BitVec 32) {Q : PUnit → sProp 𝕄} :
    ctx X K ⊢ iprop(due c (.rcv .r3) -∗ due c (.rcv .l3) -∗ sent c .zta -∗ sent c .ztb -∗ owN c 24
      -∗ ((fin c (.rcv .r3) ∗ sndPay X c .z3t ∗ r3R X c ∗ fin c (.rcv .l3) ∗ sndPay X c .z3b ∗ l3R X c
          ∗ fin c (.snd .zta) ∗ sndPay X c .zta ∗ fin c (.snd .ztb) ∗ sndPay X c .ztb ∗ owN c 24) -∗ Q ⟨⟩)
      -∗ wp frame (wpE (defs₀ (F := F)) 𝒱₀ (c : Thread nD τ) none) Set.univ (on k0_part21 v37 v560 w) Q) := by
  simp only [on, k0_part21_eq_skeleton]; unfold k0_part21_skel
  simp only [semSignalWord, semWaitWord, Prog.lift, Prog.bind_op, Prog.bind_ret, Prog.pure_eq_ret]
  iintro #HC D1 D2 H3 H4 HO Hk
  iapply (do_recv X K c .r3 rfl rfl 24 (by decide)) $$ HC D1 HO
  iintro ⟨HO, Hf1, Hp1⟩
  ihave Hp1 := (sp_r3 X c).1 $$ Hp1
  icases Hp1 with ⟨Hp1, Hr1⟩
  iapply (do_recv X K c .l3 rfl rfl 24 (by decide)) $$ HC D2 HO
  iintro ⟨HO, Hf2, Hp2⟩
  ihave Hp2 := (sp_l3 X c).1 $$ Hp2
  icases Hp2 with ⟨Hp2, Hr2⟩
  iapply (do_sent X K c .zta rfl rfl 24 (by decide)) $$ HC H3 HO; iintro ⟨HO, Hf3, Hp3⟩
  iapply (do_sent X K c .ztb rfl rfl 24 (by decide)) $$ HC H4 HO; iintro ⟨HO, Hf4, Hp4⟩
  rw [wp_ret]; imodintro; iapply Hk; iframe

theorem part22 (v12 v48 : BitVec 32) {Q : (Σ' (v604 : BitVec 32) (v605 : BitVec 32) (v606 : BitVec 1), BitVec 32) → sProp 𝕄} :
    ctx X K ⊢ iprop(sent c .zba -∗ sent c .zbb -∗ go c .z3t -∗ sndPay X c .z3t -∗ lnd c .z3t -∗ go c .z3b -∗ sndPay X c .z3b -∗ lnd c .z3b -∗ owN c 24
      -∗ (∀ r, (fin c (.snd .zba) ∗ sndPay X c .zba ∗ fin c (.snd .zbb) ∗ sndPay X c .zbb ∗ sent c .z3t ∗ sent c .z3b ∗ owN c 26) -∗ Q r)
      -∗ wp frame (wpE (defs₀ (F := F)) 𝒱₀ (c : Thread nD τ) none) Set.univ (on k0_part22 c v12 v48) Q) := by
  simp only [on, k0_part22_eq_skeleton]; unfold k0_part22_skel
  simp only [semSignalWord, semWaitWord, Prog.lift, Prog.bind_op, Prog.bind_ret, Prog.pure_eq_ret]
  iintro #HC H1 H2 Hg1 Hs1 Hl1 Hg2 Hs2 Hl2 HO Hk
  iapply (do_sent X K c .zba rfl rfl 24 (by decide)) $$ HC H1 HO; iintro ⟨HO, Hf3, Hp3⟩
  iapply (do_sent X K c .zbb rfl rfl 24 (by decide)) $$ HC H2 HO; iintro ⟨HO, Hf4, Hp4⟩
  iapply (do_send X K c .z3t (x_z3t X c) (dev25_eq c) rfl rfl 24 rfl rfl rfl) $$ HC Hs1 Hl1 HO Hg1; iintro ⟨Hs1, HO⟩
  iapply (do_send X K c .z3b (x_z3b X c) (dev26_eq c) rfl rfl 25 rfl rfl rfl) $$ HC Hs2 Hl2 HO Hg2; iintro ⟨Hs2, HO⟩
  rw [wp_ret]; imodintro; iapply Hk; iframe

theorem part23 (v12 v13 v604 v605 : BitVec 32) (v606 : BitVec 1) (w : BitVec 32)
    {Q : (Σ' (v637 : BitVec 32) (v639 : FVec F S256x4096 .f32) (v641 : FVec F S4096x256 .f32), FVec F S256x256 .f32) → sProp 𝕄} :
    iprop(r3R X c ∗ l3R X c ∗ wP Wt c ∗ outP X Wt c [9, 8, 7, 6, 5, 4, 3, 2, 1, 0])
      ⊢ iprop((∀ v, (r3R X c ∗ l3R X c ∗ wP Wt c ∗ outP X Wt c [10, 9, 8, 7, 6, 5, 4, 3, 2, 1, 0])
          -∗ Q ⟨v, k0_pay13 (c1 X (rt (rt (rt c))) 256), k0_pay14 (Wt c), constant S256x256 .f32 0x00000000#32⟩)
        -∗ wp frame (wpE (defs₀ (F := F)) 𝒱₀ (c : Thread nD τ) none) Set.univ (on k0_part23 c v12 v13 v604 v605 v606 w) Q) := by
  simp only [on, k0_part23_eq_skeleton]; unfold k0_part23_skel
  simp only [semSignalWord, semWaitWord, Prog.lift, Prog.bind_op, Prog.bind_ret, Prog.pure_eq_ret]
  iintro ⟨Hr, Hl, Hw, Ho⟩ Hk
  iapply (ld_r3 X c) $$ Hr; iintro Hr
  iapply (step_loadW Wt c) $$ Hw; iintro Hw
  iapply (step_put X Wt c 10 [9, 8, 7, 6, 5, 4, 3, 2, 1, 0] (by decide) rfl (off3_eq3 c) HEq.rfl) $$ Ho; iintro Ho
  iapply (ld_l3 X c) $$ Hl; iintro Hl
  iapply (step_loadW Wt c) $$ Hw; iintro Hw
  rw [wp_ret]; imodintro; iapply Hk; iframe

theorem part24 (v12 v13 v637 : BitVec 32) {Q : BitVec 32 → sProp 𝕄} :
    ctx X K ⊢ iprop(outP X Wt c [10, 9, 8, 7, 6, 5, 4, 3, 2, 1, 0] -∗ sent c .r3 -∗ sent c .l3 -∗ owN c 26
      -∗ (∀ r, (outP X Wt c [11, 10, 9, 8, 7, 6, 5, 4, 3, 2, 1, 0] ∗ fin c (.snd .r3) ∗ sndPay X c .r3 ∗ fin c (.snd .l3) ∗ sndPay X c .l3 ∗ owN c 26) -∗ Q r)
      -∗ wp frame (wpE (defs₀ (F := F)) 𝒱₀ (c : Thread nD τ) none) Set.univ (on k0_part24 c v12 v13 v637 (k0_pay13 (c1 X (rt (rt (rt c))) 256)) (k0_pay14 (Wt c)) (constant S256x256 .f32 0x00000000#32)) Q) := by
  simp only [on, k0_part24_eq_skeleton]; unfold k0_part24_skel
  simp only [semSignalWord, semWaitWord, Prog.lift, Prog.bind_op, Prog.bind_ret, Prog.pure_eq_ret]
  iintro #HC Ho H1 H2 HO Hk
  iapply (step_put X Wt c 11 [10, 9, 8, 7, 6, 5, 4, 3, 2, 1, 0] (by decide) rfl (off4_eq3 c) HEq.rfl) $$ Ho; iintro Ho
  iapply (do_sent X K c .r3 rfl rfl 26 (by decide)) $$ HC H1 HO; iintro ⟨HO, Hf3, Hp3⟩
  iapply (do_sent X K c .l3 rfl rfl 26 (by decide)) $$ HC H2 HO; iintro ⟨HO, Hf4, Hp4⟩
  rw [wp_ret]; imodintro; iapply Hk; iframe

theorem part25 (v12 v13 v48 v671 : BitVec 32) {Q : (Σ' (v681 : BitVec 32), BitVec 32) → sProp 𝕄} :
    iprop(∀ r, Q r) ⊢ wp frame (wpE (defs₀ (F := F)) 𝒱₀ (c : Thread nD τ) none) Set.univ (on k0_part25 v12 v13 v48 v671) Q := by
  simp only [on, k0_part25_eq_skeleton]; unfold k0_part25_skel
  simp only [semSignalWord, semWaitWord, Prog.lift, Prog.bind_op, Prog.bind_ret, Prog.pure_eq_ret]
  iintro Hk
  rw [wp_ret]; imodintro; iapply Hk

theorem part26 (v25 v48 v681 v704 : BitVec 32) {Q : (Σ' (v734 : BitVec 32), BitVec 32) → sProp 𝕄} :
    ctx X K ⊢ iprop(due c (.rcv .z3t) -∗ due c (.rcv .z3b) -∗ wP Wt c -∗ outP X Wt c [11, 10, 9, 8, 7, 6, 5, 4, 3, 2, 1, 0] -∗ owN c 26
      -∗ (∀ r, (fin c (.rcv .z3t) ∗ rcvPay X c .z3t ∗ fin c (.rcv .z3b) ∗ rcvPay X c .z3b ∗ wP Wt c ∗ outP X Wt c [13, 12, 11, 10, 9, 8, 7, 6, 5, 4, 3, 2, 1, 0] ∗ owN c 26) -∗ Q r)
      -∗ wp frame (wpE (defs₀ (F := F)) 𝒱₀ (c : Thread nD τ) none) Set.univ (on k0_part26 c v25 v48 v681 v704) Q) := by
  simp only [on, k0_part26_eq_skeleton]; unfold k0_part26_skel
  simp only [semSignalWord, semWaitWord, Prog.lift, Prog.bind_op, Prog.bind_ret, Prog.pure_eq_ret]
  iintro #HC H1 H2 Hw Ho HO Hk
  iapply (do_recv X K c .z3t rfl rfl 26 (by decide)) $$ HC H1 HO; iintro ⟨HO, Hf1, Hp1⟩
  iapply (ld_z3t X c) $$ Hp1; iintro Hp1
  iapply (step_loadW Wt c) $$ Hw; iintro Hw
  iapply (step_put X Wt c 12 [11, 10, 9, 8, 7, 6, 5, 4, 3, 2, 1, 0] (by decide) rfl (off8_eq c) HEq.rfl) $$ Ho; iintro Ho
  iapply (do_recv X K c .z3b rfl rfl 26 (by decide)) $$ HC H2 HO; iintro ⟨HO, Hf2, Hp2⟩
  iapply (ld_z3b X c) $$ Hp2; iintro Hp2
  iapply (step_loadW Wt c) $$ Hw; iintro Hw
  iapply (step_put X Wt c 13 [12, 11, 10, 9, 8, 7, 6, 5, 4, 3, 2, 1, 0] (by decide) rfl (off9_eq c) HEq.rfl) $$ Ho; iintro Ho
  rw [wp_ret]; imodintro; iapply Hk; iframe

theorem part27 (v37 v681 v704 v734 w : BitVec 32) {Q : (Σ' (v758 : BitVec 32) (v762 : FVec F S168x256 .f32), FVec F S168x256 .f32) → sProp 𝕄} :
    ctx X K ⊢ iprop(due c (.rcv .pr3) -∗ due c (.rcv .pl3) -∗ wP Wt c -∗ outP X Wt c [13, 12, 11, 10, 9, 8, 7, 6, 5, 4, 3, 2, 1, 0] -∗ owN c 26
      -∗ (∀ v, (fin c (.rcv .pr3) ∗ rcvPay X c .pr3 ∗ fin c (.rcv .pl3) ∗ rcvPay X c .pl3 ∗ wP Wt c ∗ outP X Wt c [14, 13, 12, 11, 10, 9, 8, 7, 6, 5, 4, 3, 2, 1, 0] ∗ owN c 26)
          -∗ Q ⟨v, k0_pay19 (c2 X (pa (rt (rt (rt c)))) 344) (Wt c), k0_pay20 (c2 X (pa (rt (rt (rt c)))) 344) (Wt c)⟩)
      -∗ wp frame (wpE (defs₀ (F := F)) 𝒱₀ (c : Thread nD τ) none) Set.univ (on k0_part27 c v37 v681 v704 v734 w) Q) := by
  simp only [on, k0_part27_eq_skeleton]; unfold k0_part27_skel
  simp only [semSignalWord, semWaitWord, Prog.lift, Prog.bind_op, Prog.bind_ret, Prog.pure_eq_ret]
  iintro #HC H1 H2 Hw Ho HO Hk
  iapply (do_recv X K c .pr3 rfl rfl 26 (by decide)) $$ HC H1 HO; iintro ⟨HO, Hf1, Hp1⟩
  iapply (ld_pr3 X c) $$ Hp1; iintro Hp1
  iapply (step_loadW Wt c) $$ Hw; iintro Hw
  iapply (step_put X Wt c 14 [13, 12, 11, 10, 9, 8, 7, 6, 5, 4, 3, 2, 1, 0] (by decide) rfl (off10_eq c) HEq.rfl) $$ Ho; iintro Ho
  iapply (do_recv X K c .pl3 rfl rfl 26 (by decide)) $$ HC H2 HO; iintro ⟨HO, Hf2, Hp2⟩
  iapply (ld_pl3 X c) $$ Hp2; iintro Hp2
  iapply (step_loadW Wt c) $$ Hw; iintro Hw
  rw [wp_ret]; imodintro; iapply Hk; iframe

end Parts

end Cert.KernelIdeal.Sched

end
-- ==== Proof.Body.lean ====
/- The body of the kernel, its parts put together. -/
module

public import proofs.«01_k».proof.Proof.PartsD

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device starts with and ends with -/

/-- The transfers that are the first on their semaphores, -/
def first : Finset Tr := Finset.univ \ {.r3, .l3}
/-- and those that are the last. -/
def last : Finset Tr := Finset.univ \ {.r1, .l1}

theorem sep_first {M : Type} [URA M] (Φ : Tr → sProp M) : bigSep first Φ = iprop(Φ .z1 ∗ Φ .r1 ∗ Φ .l1 ∗ Φ .r2a ∗ Φ .r2b ∗ Φ .l2a ∗ Φ .l2b ∗ Φ .pr1 ∗ Φ .pl1 ∗ Φ .zta ∗ Φ .ztb ∗ Φ .zba ∗ Φ .zbb ∗ Φ .pr3 ∗ Φ .pl3 ∗ Φ .z3t ∗ Φ .z3b) :=
  bigSep_eq_bigSepL_of_eq [.z1, .r1, .l1, .r2a, .r2b, .l2a, .l2b, .pr1, .pl1, .zta, .ztb, .zba, .zbb, .pr3, .pl3, .z3t, .z3b] (by decide) (by decide) Φ
theorem sep_last {M : Type} [URA M] (Φ : Tr → sProp M) : bigSep last Φ = iprop(Φ .z1 ∗ Φ .r2a ∗ Φ .r2b ∗ Φ .l2a ∗ Φ .l2b ∗ Φ .pr1 ∗ Φ .pl1 ∗ Φ .zta ∗ Φ .ztb ∗ Φ .zba ∗ Φ .zbb ∗ Φ .r3 ∗ Φ .l3 ∗ Φ .pr3 ∗ Φ .pl3 ∗ Φ .z3t ∗ Φ .z3b) :=
  bigSep_eq_bigSepL_of_eq [.z1, .r2a, .r2b, .l2a, .l2b, .pr1, .pl1, .zta, .ztb, .zba, .zbb, .r3, .l3, .pr3, .pl3, .z3t, .z3b] (by decide) (by decide) Φ

section Body
variable (X : Dev nD → S512x4096.Idx → Elt F .f32) (Wt : Dev nD → S4096x256.Idx → Elt F .f32) (K : Dev nD × CellIx → ℕ) (c : Dev nD)

/-- The tokens, positions and credits a device starts with. -/
def given : sProp 𝕄 :=
  iprop(bigSep first (fun k => go c k) ∗ tx c .r3 ∗ tx c .l3 ∗ bigSep first (fun k => due c (.rcv k)) ∗ crT c (.rcv .r3) ∗ crT c (.rcv .l3)
    ∗ (tok (nb 0 c) .bar 0 ∗ tok (nb 1 c) .bar 1 ∗ tok (nb 2 c) .bar 2)
    ∗ (tok (nb 0 c) (.crd 0) 0 ∗ tok (nb 1 c) (.crd 1) 0 ∗ tok (nb 0 c) (.crd 2) 0 ∗ tok (nb 1 c) (.crd 3) 0)
    ∗ due c .bar ∗ due c (.crd 0) ∗ due c (.crd 1) ∗ due c (.crd 2) ∗ due c (.crd 3))

/-- The scratch buffers. -/
def bufs : sProp 𝕄 :=
  iprop(any c bPair Finset.univ ∗ any c bDt Finset.univ ∗ any c bDb Finset.univ ∗ any c bRt Finset.univ ∗ any c bRb Finset.univ
    ∗ any c bOr Finset.univ ∗ any c bOl Finset.univ ∗ any c bPr Finset.univ ∗ any c bPl Finset.univ)

/-- A device's own rows, at the full share. -/
def xP : sProp 𝕄 := pt c cc0_stg0_0 Finset.univ fullShare (X c)

/-- Past every slot. -/
def over : sProp 𝕄 :=
  iprop(fin c .bar ∗ fin c (.crd 0) ∗ fin c (.crd 1) ∗ fin c (.crd 2) ∗ fin c (.crd 3)
    ∗ bigSep last (fun k => fin c (.snd k)) ∗ bigSep last (fun k => fin c (.rcv k)))

theorem xP_eq : (xP X c : sProp 𝕄) = pt c cc0_stg0_0 (rows2 512 0 512) fullShare (c2 X c 0) := by
  unfold xP; rw [rows2_univ, c2_self]

omit [FloatOps F] in
theorem back_pair : rcvPay X c .z1 ⊢ (any c bPair Finset.univ : sProp 𝕄) := by
  rw [← rows2_univ (n := 512)]; exact any_of
theorem back_z1 : iprop(sndPay X c .pr1 ∗ sndPay X c .pl1 ∗ pR X c) ⊢ (any c bPair Finset.univ : sProp 𝕄) := by
  refine BIBase.Entails.trans ?_ (back_pair X c)
  refine BIBase.Entails.trans ?_ (sp_z1 X c).2
  iintro ⟨A, B, C⟩; iframe
theorem back_dt : iprop(sndPay X c .pr3 ∗ dtR X c) ⊢ (any c bDt Finset.univ : sProp 𝕄) := by
  refine (sp_dt X c).2.trans ?_
  rw [← rows2_univ (n := 256)]
  exact (BIClass.sep_mono any_of any_of).trans (any_join (rows2_union (show 0 ≤ 128 by decide) (show 128 ≤ 256 by decide)) rows2_disj)
theorem back_db : iprop(sndPay X c .pl3 ∗ dbR X c) ⊢ (any c bDb Finset.univ : sProp 𝕄) := by
  refine (sp_db X c).2.trans ?_
  rw [← rows2_univ (n := 256)]
  exact (BIClass.sep_mono any_of any_of).trans (any_join (rows2_union (show 0 ≤ 128 by decide) (show 128 ≤ 256 by decide)) rows2_disj)
omit [FloatOps F] in
theorem back_rt : rcvPay X c .z3t ⊢ (any c bRt Finset.univ : sProp 𝕄) := by
  rw [← rows2_univ (n := 88)]; exact any_of
omit [FloatOps F] in
theorem back_rb : rcvPay X c .z3b ⊢ (any c bRb Finset.univ : sProp 𝕄) := by
  rw [← rows2_univ (n := 88)]; exact any_of
theorem back_or : iprop((sndPay X c .z3t ∗ r3R X c) ∗ (sndPay X c .r3 ∗ r1R X c) ∗ sndPay X c .zta ∗ sndPay X c .ztb) ⊢ (any c bOr Finset.univ : sProp 𝕄) := by
  refine BIBase.Entails.trans (Q := iprop(any c bOr (rows3 0 0 256) ∗ any c bOr (rows3 1 0 256))) ?_ (any_join slots_union slots_disj)
  refine BIClass.sep_mono ((sp_r3 X c).2.trans any_of) ?_
  refine (BIClass.sep_mono (sp_r2 X c).2 .rfl).trans ?_
  refine BIBase.Entails.trans (Q := iprop(rcvPay X c .r2a ∗ rcvPay X c .r2b)) ?_
    ((BIClass.sep_mono any_of any_of).trans (any_join (rows3_union (show 0 ≤ 128 by decide) (show 128 ≤ 256 by decide)) rows3_disj))
  iintro ⟨⟨A, B⟩, C, D⟩
  isplitl [A C]
  · iapply (sp_r2a X c).2
    iframe
  iapply (sp_r2b X c).2
  iframe
theorem back_ol : iprop((sndPay X c .z3b ∗ l3R X c) ∗ (sndPay X c .l3 ∗ l1R X c) ∗ sndPay X c .zba ∗ sndPay X c .zbb) ⊢ (any c bOl Finset.univ : sProp 𝕄) := by
  refine BIBase.Entails.trans (Q := iprop(any c bOl (rows3 0 0 256) ∗ any c bOl (rows3 1 0 256))) ?_ (any_join slots_union slots_disj)
  refine BIClass.sep_mono ((sp_l3 X c).2.trans any_of) ?_
  refine (BIClass.sep_mono (sp_l2 X c).2 .rfl).trans ?_
  refine BIBase.Entails.trans (Q := iprop(rcvPay X c .l2a ∗ rcvPay X c .l2b)) ?_
    ((BIClass.sep_mono any_of any_of).trans (any_join (rows3_union (show 0 ≤ 128 by decide) (show 128 ≤ 256 by decide)) rows3_disj))
  iintro ⟨⟨A, B⟩, C, D⟩
  isplitl [A C]
  · iapply (sp_l2a X c).2
    iframe
  iapply (sp_l2b X c).2
  iframe
omit [FloatOps F] in
theorem back_pr : iprop(any c bPr (rows2 256 0 88) ∗ rcvPay X c .pr3) ⊢ (any c bPr Finset.univ : sProp 𝕄) := by
  rw [← rows2_univ (n := 256)]
  exact (BIClass.sep_mono .rfl any_of).trans (any_join (rows2_union (show 0 ≤ 88 by decide) (show 88 ≤ 256 by decide)) rows2_disj)
omit [FloatOps F] in
theorem back_pl : iprop(any c bPl (rows2 256 0 88) ∗ rcvPay X c .pl3) ⊢ (any c bPl Finset.univ : sProp 𝕄) := by
  rw [← rows2_univ (n := 256)]
  exact (BIClass.sep_mono .rfl any_of).trans (any_join (rows2_union (show 0 ≤ 88 by decide) (show 88 ≤ 256 by decide)) rows2_disj)
theorem back_x : iprop(sndPay X c .z1 ∗ sndPay X c .r1 ∗ sndPay X c .l1 ∗ xR X c) ⊢ (xP X c : sProp 𝕄) := by
  rw [xP_eq]
  refine BIBase.Entails.trans ?_ (sp_x X c).2
  iintro ⟨A, B, C, D⟩; iframe

/-! ## The whole body -/

set_option maxHeartbeats 4000000 in
/-- The body of the kernel on device `c`, from what it is given to the end: the output's staging buffer then holds all sixteen
    pieces, what was lent is back and every slot is past. -/
theorem body_wp {Q : PUnit → sProp 𝕄} :
    ctx X K ⊢ iprop(given c -∗ bufs c -∗ xP X c -∗ wP Wt c -∗ outP X Wt c [] -∗ owN c 0
      -∗ ((over c ∗ bufs c ∗ xP X c ∗ wP Wt c ∗ outP X Wt c [15, 14, 13, 12, 11, 10, 9, 8, 7, 6, 5, 4, 3, 2, 1, 0] ∗ owN c 26) -∗ Q ⟨⟩)
      -∗ wp frame (wpE (defs₀ (F := F)) 𝒱₀ (c : Thread nD τ) none) Set.univ (on cc0_body) Q) := by
  simp only [on, cc0_body_eq_skeleton]; unfold cc0_body_skel
  simp only [k0_part28_eq_skeleton]; unfold k0_part28_skel
  unfold given
  rw [sep_first, sep_first, xP_eq]
  iintro #HC ⟨⟨Gz1, Gr1, Gl1, Gr2a, Gr2b, Gl2a, Gl2b, Gpr1, Gpl1, Gzta, Gztb, Gzba, Gzbb, Gpr3, Gpl3, Gz3t, Gz3b⟩, Tr3, Tl3, ⟨Dz1, Dr1, Dl1, Dr2a, Dr2b, Dl2a, Dl2b, Dpr1, Dpl1, Dzta, Dztb, Dzba, Dzbb, Dpr3, Dpl3, Dz3t, Dz3b⟩, Cr3, Cl3, ⟨Tb0, Tb1, Tb2⟩, ⟨Tc0, Tc1, Tc2, Tc3⟩, Db, Dc0, Dc1, Dc2, Dc3⟩
  unfold bufs
  iintro ⟨B0, B1, B2, B3, B4, B5, B6, B7, B8⟩ Hx Hw Ho HO Hk
  ihave Hx := (sp_x X c).1 $$ Hx
  icases Hx with ⟨Sz1, ⟨Sr1, Sl1⟩, Hx⟩
  ihave P0 := (give_lf X c) $$ [B5 B7]
  · iframe
  ihave P1 := (give_rt X c) $$ [B6 B8]
  · iframe
  ihave P2 := (give_pa X c) $$ [B0 B1 B2 B3 B4]
  · iframe
  rw [wp_bind, wp_bind]
  iapply (part1 c); iintro %v2 %v12 %v13 %v25 %v36
  dsimp only
  rw [wp_bind]
  iapply (part2 X K c v2 v13 v25 v36) $$ HC Tb0 Tb1 Tb2 P0 P1 P2 Db HO Gz1 Sz1
  iintro %r ⟨HR, HL, Lzta, Lztb, Lzba, Lzbb, Lz3t, Lz3b, Fb, HO, Sz1⟩
  obtain ⟨v37, v48⟩ := r
  dsimp only [landR, landL]
  icases HR with ⟨Lr1, Lr2a, Lr2b, Lpr1⟩
  icases HL with ⟨Ll1, Ll2a, Ll2b, Lpl1⟩
  rw [wp_bind]
  iapply (part3 X Wt K c v2 v25 v37) $$ HC Gr1 Sr1 Lr1 Gl1 Sl1 Ll1 Hx Hw Ho Dr1 HO
  iintro ⟨Er1, El1, Hx, Hw, Ho, Fr1, Sr2a, Sr2b, R0, HO⟩
  rw [wp_bind]
  iapply (part4 X K c v25 v37) $$ HC Dl1 Gr2a Sr2a Lr2a HO
  iintro ⟨Fl1, Sl2a, Sl2b, L0, Er2a, HO⟩
  rw [wp_bind]
  iapply (part5 X K c v37) $$ HC Gr2b Sr2b Lr2b Gl2a Sl2a Ll2a HO
  iintro ⟨Er2b, El2a, HO⟩
  rw [wp_bind]
  iapply (part6 X K c v25 v37 v48) $$ HC Gl2b Sl2b Ll2b Dz1 Gpr1 Lpr1 Gpl1 Lpl1 Sz1 HO
  iintro ⟨El2b, Fz1, Hp, Epr1, Epl1, Fsz1, Sz1, HO⟩
  rw [wp_bind]
  iapply (part7 X K c v25 v48) $$ HC Dr2a Gzta Lzta Dr2b HO
  iintro ⟨Fr2a, Ra, Ezta, Fr2b, Sztb, Rb, HO⟩
  rw [wp_bind]
  iapply (part8 X K c v37 v48) $$ HC Gztb Sztb Lztb Dl2a Gzba Lzba HO
  iintro ⟨Eztb, Fl2a, La, Ezba, HO⟩
  rw [wp_bind]
  iapply (part9 X Wt K c v12 v13 v48) $$ HC Dl2b Gzbb Lzbb Hp Hw Ho HO
  iintro %r ⟨Fl2b, Lb, Ezbb, Hp, Hw, Ho, HO⟩
  obtain ⟨v248, w250⟩ := r
  dsimp only
  rw [wp_bind]
  iapply (part10 X Wt c v12 v13 v248 w250) $$ [R0 L0 Hw Ho]
  · iframe
  iintro ⟨R0, L0, Hw, Ho⟩
  rw [wp_bind]
  iapply (part11 X K c) $$ HC Er1 El1 Er2a HO
  iintro ⟨Fsr1, Sr1, Fsl1, Sl1, Fsr2a, Sr2a, HO⟩
  ihave Fr1 := (fin_r1 c) $$ Fr1
  icases Fr1 with ⟨Ar3, Rr3⟩
  ihave Fl1 := (fin_l1 c) $$ Fl1
  icases Fl1 with ⟨Al3, Rl3⟩
  rw [wp_bind]
  iapply (part12 X K c v37) $$ HC Er2b El2a El2b Sr2a R0 Rr3 Tc0 HO
  iintro ⟨Fsr2b, Fsl2a, Sl2a, Fsl2b, Sl2b, HO⟩
  rw [wp_bind]
  iapply (part13 X K c v12 v25 v37) $$ HC Sl2a Sl2b L0 Rl3 Tc1 Dc0 Dc1 Tr3 Tl3 Fsr1 Fsl1 Ra Rb La Lb HO
  iintro %r ⟨Fc0, Fc1, Er3, El3, R1, L1, HO⟩
  obtain ⟨v348, w373, v349, w375⟩ := r
  dsimp only
  rw [wp_bind]
  iapply (part14 X Wt c v12 v13 v348 w373 v349 w375) $$ [R1 L1 Hw Ho]
  · iframe
  iintro %v383 ⟨R1, L1, Hw, Ho⟩
  dsimp only
  rw [wp_bind]
  iapply (part15 X Wt K c v12 v25 v37 v383) $$ HC Hw Ho Dpr1 Dpl1 Epr1 Epl1 HO
  iintro %r ⟨Hw, Ho, Fpr1, Ppr1, Fpl1, Ppl1, Fspr1, Spr1, Fspl1, Spl1, HO⟩
  obtain ⟨v409, w425, v410, w427⟩ := r
  dsimp only
  rw [wp_bind]
  iapply (part16 X Wt c v12 v13 v409 w425 v410 w427) $$ [Ppr1 Hw Ho]
  · iframe
  iintro %r ⟨Ppr1, Hw, Ho⟩
  obtain ⟨v443, v444, v445, v446⟩ := r
  dsimp only
  rw [wp_bind]
  iapply (part17 X Wt K c v13 v25 v37 v48 v443 v444 v445 v446) $$ HC Ppr1 Ppl1 Hw Ho Tc2 Tc3 HO
  iintro %r ⟨Bpr, Bpl, Hw, Ho, HO⟩
  obtain ⟨v478, w475⟩ := r
  dsimp only
  rw [wp_bind]
  iapply (part18 X K c v25 v48 v478 w475) $$ HC Dzta Dztb Dc2 Gpr3 HO
  iintro ⟨Fzta, Fztb, Fc2, Hdt, Epr3, HO⟩
  rw [wp_bind]
  iapply (part19 X K c v12 v13 v37 v48) $$ HC Dzba Dzbb Dc3 Gpl3 HO
  iintro %r ⟨Fzba, Fzbb, Fc3, Hdb, Epl3, HO⟩
  obtain ⟨v529, w535⟩ := r
  dsimp only
  rw [wp_bind]
  iapply (part20 X Wt c v25 v529 w535) $$ [Hdt Hdb Hw Ho]
  · iframe
  iintro %r ⟨Hdt, Hdb, Hw, Ho⟩
  obtain ⟨v560, w562⟩ := r
  dsimp only
  rw [wp_bind]
  iapply (part21 X K c v37 v560 w562) $$ HC [Cr3 Ar3] [Cl3 Al3] Ezta Eztb HO
  · unfold due; iframe
  · unfold due; iframe
  iintro ⟨Fr3, Sz3t, R3, Fl3, Sz3b, L3, Fszta, Szta, Fsztb, Sztb, HO⟩
  rw [wp_bind]
  iapply (part22 X K c v12 v48) $$ HC Ezba Ezbb Gz3t Sz3t Lz3t Gz3b Sz3b Lz3b HO
  iintro %r ⟨Fszba, Szba, Fszbb, Szbb, Ez3t, Ez3b, HO⟩
  obtain ⟨v604, v605, v606, w628⟩ := r
  dsimp only
  rw [wp_bind]
  iapply (part23 X Wt c v12 v13 v604 v605 v606 w628) $$ [R3 L3 Hw Ho]
  · iframe
  iintro %v637 ⟨R3, L3, Hw, Ho⟩
  dsimp only
  rw [wp_bind]
  iapply (part24 X Wt K c v12 v13 v637) $$ HC Ho Er3 El3 HO
  iintro %v671 ⟨Ho, Fsr3, Sr3, Fsl3, Sl3, HO⟩
  rw [wp_bind]
  iapply (part25 c v12 v13 v48 v671); iintro %r
  obtain ⟨v681, v704⟩ := r
  dsimp only
  rw [wp_bind]
  iapply (part26 X Wt K c v25 v48 v681 v704) $$ HC Dz3t Dz3b Hw Ho HO
  iintro %r ⟨Fz3t, Pz3t, Fz3b, Pz3b, Hw, Ho, HO⟩
  obtain ⟨v734, w732⟩ := r
  dsimp only
  rw [wp_bind]
  iapply (part27 X Wt K c v37 v681 v704 v734 w732) $$ HC Dpr3 Dpl3 Hw Ho HO
  iintro %v758 ⟨Fpr3, Ppr3, Fpl3, Ppl3, Hw, Ho, HO⟩
  dsimp only
  simp only [Prog.lift, Prog.bind_op, Prog.bind_ret, Prog.pure_eq_ret]
  iapply (step_put X Wt c 15 [14, 13, 12, 11, 10, 9, 8, 7, 6, 5, 4, 3, 2, 1, 0] (by decide) rfl (off11_eq c) HEq.rfl) $$ Ho; iintro Ho
  iapply (do_sent X K c .pr3 rfl rfl 26 (by decide)) $$ HC Epr3 HO; iintro ⟨HO, Fspr3, Spr3⟩
  iapply (do_sent X K c .pl3 rfl rfl 26 (by decide)) $$ HC Epl3 HO; iintro ⟨HO, Fspl3, Spl3⟩
  rw [wp_ret]; imodintro
  iapply (do_sent X K c .z3t rfl rfl 26 (by decide)) $$ HC Ez3t HO; iintro ⟨HO, Fsz3t, Sz3t⟩
  iapply (do_sent X K c .z3b rfl rfl 26 (by decide)) $$ HC Ez3b HO; iintro ⟨HO, Fsz3b, Sz3b⟩
  rw [wp_ret]; imodintro
  iapply Hk
  ihave B0 := (back_z1 X c) $$ [Spr1 Spl1 Hp]
  · iframe
  ihave B1 := (back_dt X c) $$ [Spr3 Hdt]
  · iframe
  ihave B2 := (back_db X c) $$ [Spl3 Hdb]
  · iframe
  ihave B3 := (back_rt X c) $$ Pz3t
  ihave B4 := (back_rb X c) $$ Pz3b
  ihave B5 := (back_or X c) $$ [Sz3t R3 Sr3 R1 Szta Sztb]
  · iframe
  ihave B6 := (back_ol X c) $$ [Sz3b L3 Sl3 L1 Szba Szbb]
  · iframe
  ihave B7 := (back_pr X c) $$ [Bpr Ppr3]
  · iframe
  ihave B8 := (back_pl X c) $$ [Bpl Ppl3]
  · iframe
  ihave Hx := (back_x X c) $$ [Sz1 Sr1 Sl1 Hx]
  · iframe
  rw [← xP_eq]
  unfold over
  rw [sep_last, sep_last]
  iframe

end Body

end Cert.KernelIdeal.Sched

end
-- ==== Proof.Cells.lean ====
/- The cells of a device by kind: how they close, how the rights to pay them are dealt to the devices that pay, and the credits
   of the launch. -/
module

public import proofs.«01_k».proof.Proof.Body

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots by kind -/

/-- A slot is known by its semaphore and its round. -/
theorem slot_inj {s s' : Slot} (h : semOf s = semOf s') (hr : rnd s = rnd s') : s = s' := by
  have h1 := slotOf_sem s
  rw [h, hr, slotOf_sem s'] at h1
  exact (Option.some.inj h1).symm

/-- The slots other than the barrier that are a semaphore's first. -/
abbrev OwnIx : Type := {s : Slot // rnd s = 0 ∧ s ≠ .bar}

/-- The kernel's own semaphores. -/
def osem (s : OwnIx) : SemLoc sig := semOf s.1

/-- The duties, each of its slot. -/
abbrev TokIx : Type := {p : Slot × Fin 3 // p.2 ∈ dutiesS p.1}

def crdE : Fin 4 ↪ Slot := ⟨.crd, fun _ _ h => by injection h⟩
def sndE : Tr ↪ Slot := ⟨.snd, fun _ _ h => by injection h⟩
def rcvE : Tr ↪ Slot := ⟨.rcv, fun _ _ h => by injection h⟩
def atZ : Slot ↪ Slot × Fin 3 := ⟨fun s => (s, 0), fun _ _ h => congrArg Prod.fst h⟩
def barE : Fin 3 ↪ Slot × Fin 3 := ⟨fun d => (.bar, d), fun _ _ h => congrArg Prod.snd h⟩

/-- The slots of a kind each, but for the barrier's. -/
def kinds (T : Finset Tr) : Finset Slot := Finset.univ.map crdE ∪ (T.map sndE ∪ T.map rcvE)

section Kinds
variable {M : Type} [URA M]

theorem sep_kinds (T : Finset Tr) (Φ : Slot → sProp M) :
    bigSep (kinds T) Φ = iprop((bigSep Finset.univ fun i => Φ (.crd i)) ∗ (bigSep T fun k => Φ (.snd k)) ∗ bigSep T fun k => Φ (.rcv k)) := by
  unfold kinds
  rw [bigSep_union, bigSep_union, bigSep_map, bigSep_map, bigSep_map]
  · rfl
  · refine Finset.disjoint_left.mpr fun s h h' => ?_
    obtain ⟨k, -, rfl⟩ := Finset.mem_map.mp h
    obtain ⟨k', -, e⟩ := Finset.mem_map.mp h'
    injection e
  · refine Finset.disjoint_left.mpr fun s h h' => ?_
    obtain ⟨k, -, rfl⟩ := Finset.mem_map.mp h
    rcases Finset.mem_union.mp h' with h' | h' <;> obtain ⟨k', -, e⟩ := Finset.mem_map.mp h' <;> injection e

theorem sep_own (Φ : Slot → sProp M) :
    (bigSep Finset.univ fun s : OwnIx => Φ s.1) = iprop((bigSep Finset.univ fun i => Φ (.crd i)) ∗ (bigSep first fun k => Φ (.snd k)) ∗ bigSep first fun k => Φ (.rcv k)) := by
  rw [bigSep_subtype (fun s : Slot => rnd s = 0 ∧ s ≠ .bar) Φ, ← sep_kinds]
  exact congrArg (fun S => bigSep S Φ) (by decide +kernel)

theorem sep_cells (Φ : Slot → sProp M) :
    (bigSep Finset.univ fun s : CellIx => Φ s.1) = iprop(Φ .bar ∗ (bigSep Finset.univ fun i => Φ (.crd i)) ∗ (bigSep first fun k => Φ (.snd k)) ∗ bigSep first fun k => Φ (.rcv k)) := by
  rw [bigSep_subtype (fun s : Slot => rnd s = 0) Φ, ← sep_kinds]
  have h : bigSep (insert Slot.bar (kinds first)) Φ = iprop(Φ .bar ∗ bigSep (kinds first) Φ) := bigSep_insert (by decide +kernel)
  exact (congrArg (fun S => bigSep S Φ) (by decide +kernel)).trans h

theorem sep_toks (Φ : Slot → Fin 3 → sProp M) :
    (bigSep Finset.univ fun p : TokIx => Φ p.1.1 p.1.2)
      = iprop((bigSep Finset.univ fun d => Φ .bar d) ∗ (bigSep Finset.univ fun i => Φ (.crd i) 0) ∗ (bigSep Finset.univ fun k => Φ (.snd k) 0) ∗ bigSep Finset.univ fun k => Φ (.rcv k) 0) := by
  have h := bigSep_union (s := Finset.univ.map barE) (t := (kinds Finset.univ).map atZ) (by
    refine Finset.disjoint_left.mpr fun p h h' => ?_
    obtain ⟨d, -, rfl⟩ := Finset.mem_map.mp h
    obtain ⟨s, hs, e⟩ := Finset.mem_map.mp h'
    have e' : s = .bar := congrArg Prod.fst e
    subst e'
    revert hs; decide +kernel) (Φ := fun p : Slot × Fin 3 => Φ p.1 p.2)
  rw [bigSep_map, bigSep_map, sep_kinds Finset.univ] at h
  rw [bigSep_subtype (fun p : Slot × Fin 3 => p.2 ∈ dutiesS p.1) (fun p => Φ p.1 p.2)]
  exact (congrArg (fun S => bigSep S fun p : Slot × Fin 3 => Φ p.1 p.2) (by decide +kernel)).trans h

theorem sep_four (Φ : Fin 4 → sProp M) : bigSep Finset.univ Φ = iprop(Φ 0 ∗ Φ 1 ∗ Φ 2 ∗ Φ 3) := bigSep_univ_eq_bigSepL [0, 1, 2, 3] (by decide) (by decide) Φ
theorem sep_three (Φ : Fin 3 → sProp M) : bigSep Finset.univ Φ = iprop(Φ 0 ∗ Φ 1 ∗ Φ 2) := bigSep_univ_eq_bigSepL [0, 1, 2] (by decide) (by decide) Φ
theorem sep_tr (Φ : Tr → sProp M) : bigSep Finset.univ Φ = iprop(Φ .r3 ∗ Φ .l3 ∗ bigSep first Φ) := by
  have h1 : bigSep (insert Tr.l3 first) Φ = iprop(Φ .l3 ∗ bigSep first Φ) := bigSep_insert (by decide)
  have h2 : bigSep (insert Tr.r3 (insert Tr.l3 first)) Φ = iprop(Φ .r3 ∗ bigSep (insert Tr.l3 first) Φ) := bigSep_insert (by decide)
  rw [← h1, ← h2]
  exact congrArg (fun S => bigSep S Φ) (by decide)

end Kinds

/-! ## The semaphores -/

theorem ownSemFacts : Pipeline.OwnSemFacts cfg0.spec osem where
  isScoped := by decide +kernel
  inj := fun s s' h => Subtype.ext (slot_inj h (s.2.1.trans s'.2.1.symm))
  disj := by decide +kernel

/-- A semaphore of device `c` at zero. -/
abbrev zr (c : Dev nD) (s : Slot) : sProp 𝕄 := semVal (cell c s) 0

omit [FloatOps F] in
theorem ownSems0_eq (c : Dev nD) : (Pipeline.ownSems0 osem c : sProp 𝕄)
    = iprop((bigSep Finset.univ fun i => zr c (.crd i)) ∗ (bigSep first fun k => zr c (.snd k)) ∗ bigSep first fun k => zr c (.rcv k)) :=
  sep_own fun s => zr c s
omit [FloatOps F] in
theorem unscopedSems0_eq (c : Dev nD) : (unscopedSems0 c : sProp 𝕄) = zr c .bar := by
  unfold unscopedSems0; rw [bigSep_eq_bigSepL_of_eq [SemLoc.reg barS] (by decide +kernel) (by decide)]; rfl

omit [FloatOps F] in
theorem sems_split (c : Dev nD) : iprop(Pipeline.ownSems0 osem c ∗ unscopedSems0 c) ⊢ (bigSep Finset.univ fun s : CellIx => zr c s.1 : sProp 𝕄) := by
  rw [ownSems0_eq, unscopedSems0_eq, sep_cells fun s => zr c s]
  iintro ⟨H, HB⟩
  isplitl [HB] <;> iassumption

/-- The last transfers' semaphores are the first ones'. -/
theorem last_first {M : Type} [URA M] (Φ : SemLoc sig → sProp M) :
    iprop((bigSep last fun k => Φ (semOf (.snd k))) ∗ bigSep last fun k => Φ (semOf (.rcv k)))
      ⊢ iprop((bigSep first fun k => Φ (semOf (.snd k))) ∗ bigSep first fun k => Φ (semOf (.rcv k))) := by
  rw [sep_last, sep_first, sep_last, sep_first,
    show semOf (.snd .r3) = semOf (.snd .r1) from rfl, show semOf (.snd .l3) = semOf (.snd .l1) from rfl,
    show semOf (.rcv .r3) = semOf (.rcv .r1) from rfl, show semOf (.rcv .l3) = semOf (.rcv .l1) from rfl]
  iintro ⟨⟨A1, A2, A3, A4, A5, A6, A7, A8, A9, A10, A11, A12, A13, A14, A15, A16, A17⟩, B1, B2, B3, B4, B5, B6, B7, B8, B9, B10, B11, B12, B13, B14, B15, B16, B17⟩
  isplitl [A1 A2 A3 A4 A5 A6 A7 A8 A9 A10 A11 A12 A13 A14 A15 A16 A17] <;> iframe

section Close
variable (X : Dev nD → S512x4096.Idx → Elt F .f32) (K : Dev nD × CellIx → ℕ) (c : Dev nD)

/-- A slot with no later round on its semaphore. -/
def Final (s : Slot) : Prop := slotOf (semOf s) (rnd s + 1) = none

omit [FloatOps F] in
theorem no_later {s : Slot} (h : Final s) (r : ℕ) (hr : rnd s + 1 ≤ r) : (Rd (F := F) X).duties (cell c s) r = ∅ := by
  rcases hr.eq_or_lt with e | hlt
  · subst e; exact duties_none X (cell c s) _ h
  · by_cases h2 : 2 ≤ r
    · exact duties_late X (cell c s) r h2
    · exfalso
      have e : rnd s = 0 := by omega
      omega

omit [FloatOps F] in
/-- Past its last round a cell closes, and its semaphore is at zero. -/
theorem closed {s : Slot} (h : Final s) : iprop(ctx X K ∗ fin c s) ⊢ (|={Set.univ}=> zr c s : sProp 𝕄) := by
  unfold fin past
  iintro ⟨#HC, H, -⟩
  ihave HI := (ctx_inv X K c s) $$ HC
  imod (Rounds.cell_close ER (Rd X) (Set.mem_univ (K (c, ix s))) (fun h => h) (R := rnd s + 1) (no_later X c h)) $$ [HI H] with Hz
  · isplitl [HI] <;> iassumption
  imodintro; iexact Hz

omit [FloatOps F] in
theorem closed_all {I : Type} [DecidableEq I] (S : Finset I) (f : I → Slot) (h : ∀ i ∈ S, Final (f i)) :
    iprop(ctx X K ∗ bigSep S fun i => fin c (f i)) ⊢ (|={Set.univ}=> bigSep S fun i => zr c (f i) : sProp 𝕄) := by
  refine BIBase.Entails.trans (BIClass.sep_mono (BI.bigSep_of_persistent S (ctx X K)) BIBase.Entails.rfl) ?_
  rw [← bigSep_sep']
  exact (bigSep_mono fun i hi => closed X K c (h i hi)).trans (bigSep_fupd _ _)

omit [FloatOps F] in
/-- All the cells of a device closed. -/
theorem over_zero : iprop(ctx X K ∗ over c) ⊢ (|={Set.univ}=> iprop(unscopedSems0 c ∗ Pipeline.ownSems0 osem c) : sProp 𝕄) := by
  rw [ownSems0_eq, unscopedSems0_eq]
  unfold over
  iintro ⟨#HC, HB, H0, H1, H2, H3, HS, HR⟩
  imod (closed X K c (s := .bar) (by unfold Final; decide +kernel)) $$ [HB] with HB
  · isplitr; · iexact HC
    iexact HB
  imod (closed_all X K c Finset.univ Slot.crd (by unfold Final; decide +kernel)) $$ [H0 H1 H2 H3] with H
  · isplitr; · iexact HC
    rw [sep_four]; iframe
  imod (closed_all X K c last Slot.snd (by unfold Final; decide +kernel)) $$ [HS] with HS
  · isplitr; · iexact HC
    iexact HS
  imod (closed_all X K c last Slot.rcv (by unfold Final; decide +kernel)) $$ [HR] with HR
  · isplitr; · iexact HC
    iexact HR
  imodintro
  isplitl [HB]; · iexact HB
  isplitl [H]; · iexact H
  iapply (last_first fun sm => (semVal ((c : Thread nD τ), sm) 0 : sProp 𝕄))
  isplitl [HS] <;> iassumption

end Close

/-! ## The tokens, dealt to the devices that pay with them -/

/-- A step to a neighbour goes through all the devices. -/
def nbE : Fin 3 → Dev nD ≃ Dev nD
  | 0 => lfE
  | 1 => rtE
  | 2 => paE
theorem nbE_apply (j : Fin 3) (c : Dev nD) : nbE j c = nb j c := by fin_cases j <;> rfl

theorem sep_deal {M : Type} [URA M] (j : Fin 3) (Φ : Dev nD → sProp M) : bigSep Finset.univ Φ = bigSep Finset.univ fun c => Φ (nb j c) := by
  rw [bigSep_univ_equiv (nbE j) Φ]; exact bigSep_congr fun c _ => by rw [nbE_apply]

/-- The tokens of a device's own cells, -/
def minted (c : Dev nD) : sProp 𝕄 := bigSep Finset.univ fun p : TokIx => tok c p.1.1 p.1.2
/-- and those it pays with. -/
def dealt (c : Dev nD) : sProp 𝕄 :=
  iprop((tok (nb 0 c) .bar 0 ∗ tok (nb 1 c) .bar 1 ∗ tok (nb 2 c) .bar 2)
    ∗ (tok (nb 0 c) (.crd 0) 0 ∗ tok (nb 1 c) (.crd 1) 0 ∗ tok (nb 0 c) (.crd 2) 0 ∗ tok (nb 1 c) (.crd 3) 0)
    ∗ bigSep Finset.univ fun k => tx c k)

omit [FloatOps F] in
theorem deal_rcv : (bigSep Finset.univ fun c : Dev nD => bigSep Finset.univ fun k => (tok c (.rcv k) 0 : sProp 𝕄))
    = bigSep Finset.univ fun c : Dev nD => bigSep Finset.univ fun k => tok (dst k c) (.rcv k) 0 := by
  rw [bigSep_univ_comm, bigSep_univ_comm fun (c : Dev nD) k => (tok (dst k c) (.rcv k) 0 : sProp 𝕄)]
  refine bigSep_congr fun k _ => ?_
  rw [sep_deal (dir k), nb_dir]

omit [FloatOps F] in
theorem deal_all : (bigSep Finset.univ fun c : Dev nD => (minted c : sProp 𝕄)) ⊢ bigSep Finset.univ fun c : Dev nD => dealt c := by
  have e (c : Dev nD) : (minted c : sProp 𝕄) = _ := sep_toks fun s d => tok c s d
  unfold dealt
  simp only [e, sep_three, sep_four, tx, bigSep_sep', deal_rcv]
  rw [sep_deal 0 fun c : Dev nD => (tok c .bar 0 : sProp 𝕄), sep_deal 1 fun c : Dev nD => (tok c .bar 1 : sProp 𝕄), sep_deal 2 fun c : Dev nD => (tok c .bar 2 : sProp 𝕄),
    sep_deal 0 fun c : Dev nD => (tok c (.crd 0) 0 : sProp 𝕄), sep_deal 1 fun c : Dev nD => (tok c (.crd 1) 0 : sProp 𝕄),
    sep_deal 0 fun c : Dev nD => (tok c (.crd 2) 0 : sProp 𝕄), sep_deal 1 fun c : Dev nD => (tok c (.crd 3) 0 : sProp 𝕄)]

/-! ## The credits of the launch -/

/-- What a device owes at the launch. -/
def O₀ (c : Dev nD) : CellTallies nD τ sig ℕ := oweL c pays

omit [FloatOps F] in
theorem cred_sum (a b : CellTallies nD τ sig ℕ) : (cred (a + b) : sProp 𝕄) = iprop(cred a ∗ cred b) :=
  BI.equiv_iff.mp ⟨(cred_add a b).1, (cred_add a b).2⟩

/-- What is owed to device `c` for a list of payments. -/
def dueL (c : Dev nD) : List (Slot × Fin 3) → CellTallies nD τ sig ℕ
  | [] => 0
  | p :: l => dueL c l + tallyAt (cell c p.1) (rnd p.1) (amtS p.1)

theorem cell_dev {c d : Dev nD} {s : Slot} {sm : SemLoc sig} (h : ((c : Thread nD τ), sm) = cell d s) : d = c :=
  (congrArg (fun g : GSem nD τ sig => g.1.1) h).symm

theorem owed_sum (c : Dev nD) (sm : SemLoc sig) (u : ℕ) (l : List (Slot × Fin 3)) :
    ∑ d : Dev nD, oweL d l ((c : Thread nD τ), sm) u = dueL c l ((c : Thread nD τ), sm) u := by
  induction l with
  | nil => exact Finset.sum_const_zero
  | cons p l ih =>
    unfold oweL dueL
    simp only [Pi.add_apply, Finsupp.add_apply]
    rw [Finset.sum_add_distrib, ih]
    congr 1
    have h := Equiv.sum_comp (nbE p.2) fun d : Dev nD => tallyAt (cell d p.1) (rnd p.1) (amtS p.1) ((c : Thread nD τ), sm) u
    simp only [nbE_apply] at h
    rw [h]
    refine Fintype.sum_eq_single c fun d hd => ?_
    rw [tallyAt_apply, if_neg fun h => hd (cell_dev h.1)]

theorem launch_due (c : Dev nD) (sm : SemLoc sig) :
    launchCredit (Pipeline.owing O₀) 0 ((c : Thread nD τ), sm) = dueL c pays ((c : Thread nD τ), sm) :=
  Finsupp.ext fun u => (Pipeline.launchCredit_owing O₀ _ u).trans (owed_sum c sm u pays)

/-- The credits for a list of payments, one for each. -/
def dueS (c : Dev nD) : List (Slot × Fin 3) → sProp 𝕄
  | [] => iprop(emp)
  | p :: l => iprop(cred (tallyAt (cell c p.1) (rnd p.1) (amtS p.1)) ∗ dueS c l)

omit [FloatOps F] in
theorem due_split (c : Dev nD) (l : List (Slot × Fin 3)) :
    (bigSep Finset.univ fun sm : SemLoc sig => cred (tallyOn ((c : Thread nD τ), sm) (dueL c l ((c : Thread nD τ), sm)))) ⊢ (dueS c l : sProp 𝕄) := by
  induction l with
  | nil => iintro -; unfold dueS; iempintro
  | cons p l ih =>
    unfold dueS
    have e : (bigSep Finset.univ fun sm : SemLoc sig => (cred (tallyOn ((c : Thread nD τ), sm) (dueL c (p :: l) ((c : Thread nD τ), sm))) : sProp 𝕄))
        = iprop((bigSep Finset.univ fun sm : SemLoc sig => cred (tallyOn ((c : Thread nD τ), sm) (tallyAt (cell c p.1) (rnd p.1) (amtS p.1) ((c : Thread nD τ), sm))))
          ∗ bigSep Finset.univ fun sm : SemLoc sig => cred (tallyOn ((c : Thread nD τ), sm) (dueL c l ((c : Thread nD τ), sm)))) := by
      rw [← bigSep_sep']
      refine bigSep_congr fun sm _ => ?_
      rw [← cred_sum]
      refine congrArg cred ?_
      rw [add_comm]
      exact Pi.single_add (f := fun _ : GSem nD τ sig => ℕ →₀ ℕ) ((c : Thread nD τ), sm) _ _
    rw [e]
    refine BIClass.sep_mono ?_ ih
    refine BIBase.Entails.trans (bigSep_elim (Finset.mem_univ (semOf p.1))) (Entails.of_eq ?_)
    unfold tallyAt
    rw [tallyOn_self]

omit [FloatOps F] in
theorem crT_of (c : Dev nD) (s : Slot) (h : dutiesS s = {0}) : cred (tallyAt (cell c s) (rnd s) (amtS s)) ⊢ (crT c s : sProp 𝕄) := by
  unfold crT expS; rw [h, Finset.card_singleton, Nat.one_mul]

omit [FloatOps F] in
theorem crT_bar (c : Dev nD) : iprop(cred (tallyAt (cell c .bar) (rnd .bar) (amtS .bar)) ∗ cred (tallyAt (cell c .bar) (rnd .bar) (amtS .bar)) ∗ cred (tallyAt (cell c .bar) (rnd .bar) (amtS .bar))) ⊢ (crT c .bar : sProp 𝕄) := by
  rw [← cred_sum, tallyAt_add, ← cred_sum, tallyAt_add]
  exact BIBase.Entails.rfl

omit [FloatOps F] in
theorem creds (c : Dev nD) : Pipeline.launchCred O₀ c
    ⊢ (iprop(crT c .bar ∗ crT c (.crd 0) ∗ crT c (.crd 1) ∗ crT c (.crd 2) ∗ crT c (.crd 3) ∗ bigSep Finset.univ fun k => crT c (.rcv k)) : sProp 𝕄) := by
  have e : (Pipeline.launchCred O₀ c : sProp 𝕄) = bigSep Finset.univ fun sm : SemLoc sig => cred (tallyOn ((c : Thread nD τ), sm) (dueL c pays ((c : Thread nD τ), sm))) := by
    unfold Pipeline.launchCred; exact bigSep_congr fun sm _ => by rw [← launch_due]
  rw [e]
  refine (due_split c pays).trans ?_
  have h (s : Slot) (hs : dutiesS s = {0} := by rfl) := crT_of (F := F) c s hs
  rw [sep_tr, sep_first]
  unfold pays
  simp only [dueS]
  iintro ⟨A1, A2, A3, B1, B2, B3, B4, B5, B6, B7, B8, B9, B10, B11, B12, B13, C0, C1, B14, B15, C2, C3, B16, B17, B18, B19, -⟩
  isplitl [A1 A2 A3]
  · iapply (crT_bar c)
    isplitl [A1]; · iexact A1
    isplitl [A2]; · iexact A2
    iexact A3
  isplitl [C0]; · iapply (h (.crd 0)); iexact C0
  isplitl [C1]; · iapply (h (.crd 1)); iexact C1
  isplitl [C2]; · iapply (h (.crd 2)); iexact C2
  isplitl [C3]; · iapply (h (.crd 3)); iexact C3
  ihave B1 := (h (.rcv .z1)) $$ B1
  ihave B2 := (h (.rcv .r1)) $$ B2
  ihave B3 := (h (.rcv .l1)) $$ B3
  ihave B4 := (h (.rcv .r2a)) $$ B4
  ihave B5 := (h (.rcv .r2b)) $$ B5
  ihave B6 := (h (.rcv .l2a)) $$ B6
  ihave B7 := (h (.rcv .l2b)) $$ B7
  ihave B8 := (h (.rcv .pr1)) $$ B8
  ihave B9 := (h (.rcv .pl1)) $$ B9
  ihave B10 := (h (.rcv .zta)) $$ B10
  ihave B11 := (h (.rcv .ztb)) $$ B11
  ihave B12 := (h (.rcv .zba)) $$ B12
  ihave B13 := (h (.rcv .zbb)) $$ B13
  ihave B14 := (h (.rcv .r3)) $$ B14
  ihave B15 := (h (.rcv .l3)) $$ B15
  ihave B16 := (h (.rcv .pr3)) $$ B16
  ihave B17 := (h (.rcv .pl3)) $$ B17
  ihave B18 := (h (.rcv .z3t)) $$ B18
  ihave B19 := (h (.rcv .z3b)) $$ B19
  iframe

end Cert.KernelIdeal.Sched

end
-- ==== Proof.Run.lean ====
/- The run: the launch of the eight devices' programs and what it ends with. -/
module

public import proofs.«01_k».proof.Proof.Cells
public import Idealize.ShloMosaic.Lib.Pipeline.CollectiveSegs

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory a run starts from. -/
abbrev s₀ : MemSt nD τ sig (Elt F) := ⟨m, fun _ => 0, ρ⟩

/-- Device `c`'s rows of the first operand, -/
def xIn (c : Dev nD) : S512x4096.Idx → Elt F .f32 := (win0_0.blk (0 : Fin 1)).view.read (Elt F) ((s₀ m ρ).mem ((c : Thread nD τ).loc main_arg0))
/-- and its columns of the second. -/
def wIn (c : Dev nD) : S4096x256.Idx → Elt F .f32 := (win0_1.blk (0 : Fin 1)).view.read (Elt F) ((s₀ m ρ).mem ((c : Thread nD τ).loc main_arg1))

/-! ## The data of the one region -/

def Φ₀ (c : Dev nD) : sProp 𝕄 := iprop((∃ K, ctx (xIn m ρ) K) ∗ given c ∗ bufs c)
def Φ₁ (c : Dev nD) : sProp 𝕄 := iprop(bufs c ∗ unscopedSems0 c ∗ Pipeline.ownSems0 osem c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => outAt (xIn m ρ) (wIn m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ pt c b Finset.univ fullShare f) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) ((c : Thread nD τ).loc b), ⌜f = Y⌝ ∗ pt c b Finset.univ fullShare f)

def preB (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def postB (c : Dev nD) : sProp 𝕄 :=
  iprop(Φ₁ c ∗ (dats m ρ 0 c).owesAt 0 t0_0.succ ∗ stg c cc0_stg0_0 (xIn m ρ c) ∗ stg c cc0_stg1_0 (wIn m ρ c)
    ∗ stg c cc0_stg2_0 (outAt (xIn m ρ) (wIn m ρ) c))

theorem before_x (c : Dev nD) (d) : (dats m ρ 0 c).before (0 : Fin 3) t0_0 d = xIn m ρ c := by
  unfold Dat.before; rw [if_pos (fetch0_0 t0_0)]; rfl
theorem before_w (c : Dev nD) (d) : (dats m ρ 0 c).before (1 : Fin 3) t0_0 d = wIn m ρ c := by
  unfold Dat.before; rw [if_pos (fetch0_1 t0_0)]; rfl

/-- The kernel on its staging buffers, from what the region gives it to what the region wants back. -/
theorem kernel_wp (c : Dev nD) : preB m ρ c ⊢ wp frame (wpE (defs₀ (F := F)) 𝒱₀ (c : Thread nD τ) none) Set.univ (on cc0_body) (fun _ => postB m ρ c) := by
  unfold preB Φ₀
  iintro ⟨⟨⟨%K, #HC⟩, Hg, Hb⟩, Ho, ⟨%d0, %g0, %h0, Hx⟩, ⟨%d1, %g1, %h1, Hw⟩, ⟨%d2, %g2, -, Hout⟩⟩
  rw [before_x] at h0; rw [before_w] at h1
  subst h0; subst h1
  unfold Dat.owesAt Pipeline.owesWithin
  icases Ho with ⟨%W, -, HO⟩
  iapply (wp_fupd frame (wpE (defs₀ (F := F)) 𝒱₀ (c : Thread nD τ) none) Set.univ (on cc0_body) (fun _ => postB m ρ c))
  ihave Hbody := (body_wp (Q := fun _ => iprop(|={Set.univ}=> postB m ρ c)) (xIn m ρ) (wIn m ρ) K c) $$ HC
  ihave HO := (show owes (c : Thread nD τ) ((dats m ρ 0 c).owed t0_0.castSucc) W ⊢ (owN c 0 : sProp 𝕄) from by
    unfold owN ow; iintro H; iexists W; iexact H) $$ HO
  ihave Hx := (show pt c cc0_stg0_0 Finset.univ fullShare (xIn m ρ c) ⊢ (xP (xIn m ρ) c : sProp 𝕄) from BIBase.Entails.rfl) $$ Hx
  ihave Hw := (show pt c cc0_stg1_0 Finset.univ fullShare (wIn m ρ c) ⊢ (wP (wIn m ρ) c : sProp 𝕄) from BIBase.Entails.rfl) $$ Hw
  ihave Hout := (show pt c cc0_stg2_0 Finset.univ fullShare g2 ⊢ (outP (xIn m ρ) (wIn m ρ) c [] : sProp 𝕄) from by
    unfold outP; iintro H; iexists g2; isplitr; · (ipureintro; exact fun j hj => absurd hj List.not_mem_nil)
    iexact H) $$ Hout
  iapply Hbody $$ Hg Hb Hx Hw Hout HO
  iintro ⟨Hov, Hb, Hx, Hw, Hout, HO⟩
  imod (over_zero (xIn m ρ) K c) $$ [Hov] with ⟨Hu, Hs⟩
  · isplitr; · iexact HC
    iexact Hov
  imodintro
  unfold postB Φ₁ Dat.owesAt Pipeline.owesWithin owN ow xP wP outP
  icases HO with ⟨%W', HO⟩
  icases Hout with ⟨%f, %hf, Hout⟩
  isplitl [Hb Hu Hs]
  · isplitl [Hb]; · iexact Hb
    isplitl [Hu] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f
  isplitr
  · ipureintro; exact out_of_has _ _ fun j => hf j (by revert j; decide)
  iexact Hout

set_option maxRecDepth 8000 in
/-- What the region wants of the kernel's body. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact kernel_wp m ρ c

/-! ## The launch -/

theorem share_eq (c : Dev nD) (w : Fin cfg0.W) : (dats m ρ 0 c).share w = fullShare := by unfold Dat.share; split <;> rfl

/-- Every cell of the protocol. -/
def cellE : Dev nD × CellIx ↪ GSem nD τ sig := ⟨fun ck => cell ck.1 ck.2.1, fun a b h => by
  obtain ⟨c, s⟩ := a; obtain ⟨d, s'⟩ := b
  have h1 : d = c := cell_dev h
  exact Prod.ext h1.symm (Subtype.ext (slot_inj (congrArg Prod.snd h) (s.2.trans s'.2.symm)))⟩
def theCells : Finset (GSem nD τ sig) := Finset.univ.map cellE

/-- Every duty of it. -/
def tokE : Dev nD × TokIx ↪ GSem nD τ sig × ℕ × Fin 3 := ⟨fun ct => (cell ct.1 ct.2.1.1, rnd ct.2.1.1, ct.2.1.2), fun a b h => by
  obtain ⟨c, ⟨⟨s, d⟩, hs⟩⟩ := a; obtain ⟨c', ⟨⟨s', d'⟩, hs'⟩⟩ := b
  have h1 : cell c s = cell c' s' := congrArg Prod.fst h
  have h2 : c' = c := cell_dev h1
  have h3 : s = s' := slot_inj (congrArg Prod.snd h1) (congrArg (fun x : GSem nD τ sig × ℕ × Fin 3 => x.2.1) h)
  have h4 : d = d' := congrArg (fun x : GSem nD τ sig × ℕ × Fin 3 => x.2.2) h
  subst h2; subst h3; subst h4; rfl⟩
def theToks : Finset (GSem nD τ sig × ℕ × Fin 3) := Finset.univ.map tokE

def u₀ : UU :=
  (initOf (Pipeline.cells cfgs cellOf_inj) (Pipeline.launchToks cfgs cellOf_inj), initOf theCells theToks)

/-- What the start gives each device: its cells' states, its places in them, and the tokens of their duties. -/
def G (c : Dev nD) : sProp 𝕄 :=
  iprop((bigSep Finset.univ fun s : CellIx => roundState ER (Rd (xIn m ρ)) (cell c s.1) 0)
    ∗ (bigSep Finset.univ fun s : CellIx => iprop(atPos ER (cell c s.1) 0 ∅ 0 ∗ reached ER (cell c s.1) 0)) ∗ minted c)

/-- A device's places, and the tokens it pays with. -/
def held (c : Dev nD) : sProp 𝕄 := iprop((bigSep Finset.univ fun s : CellIx => atPos ER (cell c s.1) 0 ∅ 0) ∗ dealt c)

/-- What it goes into the region with. -/
def G' (c : Dev nD) : sProp 𝕄 := iprop((∃ K : Dev nD × CellIx → ℕ, bigSep Finset.univ fun ck : Dev nD × CellIx => iprop(cellInv ER (Rd (xIn m ρ)) (K ck) (cell ck.1 ck.2.1) ∗ reached ER (cell ck.1 ck.2.1) 0)) ∗ held c)

omit [FloatOps F] in
theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun s : CellIx => Φ (cell c s.1) := by
    unfold theCells; rw [bigSep_map, bigSep_univ_prod]; rfl
  have hT : bigSep theToks (fun x => (dutyTok ER x.1 x.2.1 x.2.2 : sProp 𝕄)) = bigSep Finset.univ fun c : Dev nD => minted c := by
    unfold theToks; rw [bigSep_map, bigSep_univ_prod]; rfl
  iintro H
  imod (Rounds.fund ER (Rd (xIn m ρ)) theCells theToks) $$ H with ⟨Hs, Hr, Ha, Ht⟩
  imodintro
  ihave Hs := (Entails.of_eq (hX fun g => roundState ER (Rd (xIn m ρ)) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G; simp only [bigSep_sep']
  isplitl [Hs]; · iexact Hs
  isplitl [Ha Hr]
  · isplitl [Ha] <;> iassumption
  iexact Ht

omit [FloatOps F] in
/-- On one device: the semaphores and the cells' states become the cells' invariants. -/
theorem alloc (c : Dev nD) :
    iprop(Pipeline.ownSems0 osem c ∗ unscopedSems0 c ∗ G m ρ c)
      ⊢ (|={Set.univ}=> iprop((bigSep Finset.univ fun s : CellIx => iprop(∃ κ : ℕ, cellInv ER (Rd (xIn m ρ)) κ (cell c s.1)))
          ∗ (bigSep Finset.univ fun s : CellIx => iprop(atPos ER (cell c s.1) 0 ∅ 0 ∗ reached ER (cell c s.1) 0)) ∗ minted c) : sProp 𝕄) := by
  unfold G
  iintro ⟨Ho, Hu, Hs, Ha, Ht⟩
  ihave Hv := (sems_split (F := F) c) $$ [Ho Hu]
  · isplitl [Ho] <;> iassumption
  imod (show iprop((bigSep Finset.univ fun s : CellIx => zr c s.1) ∗ bigSep Finset.univ fun s : CellIx => roundState ER (Rd (xIn m ρ)) (cell c s.1) 0)
      ⊢ (|={Set.univ}=> bigSep Finset.univ fun s : CellIx => iprop(∃ κ : ℕ, cellInv ER (Rd (xIn m ρ)) κ (cell c s.1)) : sProp 𝕄) from by
        rw [← bigSep_sep']
        exact BIBase.Entails.trans (bigSep_mono fun s _ => BIBase.Entails.trans (Rounds.body_intro ER (Rd (xIn m ρ)) (cell c s.1)) inv_alloc) (bigSep_fupd _ _)) $$ [Hv Hs] with Hi
  · isplitl [Hv] <;> iassumption
  imodintro
  isplitl [Hi]; · iexact Hi
  isplitl [Ha] <;> iassumption

omit [FloatOps F] in
theorem sep_with {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']; exact BIClass.sep_mono (BI.bigSep_of_persistent S R) BIBase.Entails.rfl

omit [FloatOps F] in
/-- The invariants shared among all devices, and the tokens dealt. -/
theorem share_out :
    (bigSep Finset.univ fun c : Dev nD => iprop((bigSep Finset.univ fun s : CellIx => iprop(∃ κ : ℕ, cellInv ER (Rd (xIn m ρ)) κ (cell c s.1)))
          ∗ (bigSep Finset.univ fun s : CellIx => iprop(atPos ER (cell c s.1) 0 ∅ 0 ∗ reached ER (cell c s.1) 0)) ∗ minted c) : sProp 𝕄)
      ⊢ bigSep Finset.univ (G' m ρ) := by
  have ea : (bigSep Finset.univ fun c : Dev nD => bigSep Finset.univ fun s : CellIx => (iprop(atPos ER (cell c s.1) 0 ∅ 0 ∗ reached ER (cell c s.1) 0) : sProp 𝕄))
      = iprop((bigSep Finset.univ fun c : Dev nD => bigSep Finset.univ fun s : CellIx => atPos ER (cell c s.1) 0 ∅ 0)
        ∗ bigSep Finset.univ fun ck : Dev nD × CellIx => reached ER (cell ck.1 ck.2.1) 0) := by
    rw [bigSep_univ_prod, ← bigSep_sep']; exact bigSep_congr fun c _ => bigSep_sep' _ _ _
  rw [bigSep_sep', bigSep_sep', ea, ← bigSep_univ_prod (fun ck : Dev nD × CellIx => iprop(∃ κ : ℕ, cellInv ER (Rd (xIn m ρ)) κ (cell ck.1 ck.2.1)))]
  iintro ⟨HI, ⟨Ha, #HR⟩, Ht⟩
  ihave HK := (BI.bigSep_exists_pi Finset.univ (fun (ck : Dev nD × CellIx) (κ : ℕ) => (cellInv ER (Rd (xIn m ρ)) κ (cell ck.1 ck.2.1) : sProp 𝕄))) $$ HI
  icases HK with ⟨%K, #HI⟩
  ihave Ht := (deal_all (F := F)) $$ Ht
  unfold G'
  iapply (sep_with Finset.univ (iprop(∃ K : Dev nD × CellIx → ℕ, bigSep Finset.univ fun ck : Dev nD × CellIx => iprop(cellInv ER (Rd (xIn m ρ)) (K ck) (cell ck.1 ck.2.1) ∗ reached ER (cell ck.1 ck.2.1) 0))) held)
  isplitr
  · iexists K
    rw [bigSep_sep']
    isplitl; · iexact HI
    iexact HR
  unfold held
  rw [bigSep_sep']
  isplitl [Ha] <;> iassumption

omit [FloatOps F] in
theorem glob : (bigSep Finset.univ fun c => iprop(Pipeline.ownSems0 osem c ∗ unscopedSems0 c ∗ G m ρ c) : sProp 𝕄) ⊢ |={Set.univ}=> bigSep Finset.univ (G' m ρ) :=
  BIBase.Entails.trans (BIBase.Entails.trans (bigSep_mono fun c _ => alloc m ρ c) (bigSep_fupd _ _)) (BI.fupd_mono (share_out m ρ))

omit [FloatOps F] in
theorem first_zero (k : Tr) (hk : k ∈ first) : rnd (.snd k) = 0 ∧ rnd (.rcv k) = 0 := by
  revert k; decide

omit [FloatOps F] in
/-- What a device holds and its credits are what its program starts with. -/
theorem given_of (c : Dev nD) : iprop(held c ∗ Pipeline.launchCred O₀ c) ⊢ (given c : sProp 𝕄) := by
  have eP : (bigSep Finset.univ fun s : CellIx => (atPos ER (cell c s.1) 0 ∅ 0 : sProp 𝕄))
      = iprop(at_ c .bar ∗ (at_ c (.crd 0) ∗ at_ c (.crd 1) ∗ at_ c (.crd 2) ∗ at_ c (.crd 3)) ∗ (bigSep first fun k => at_ c (.snd k)) ∗ bigSep first fun k => at_ c (.rcv k)) := by
    rw [sep_cells fun s => (atPos ER (cell c s) 0 ∅ 0 : sProp 𝕄), sep_four,
      bigSep_congr (s := first) (Φ := fun k => (atPos ER (cell c (.snd k)) 0 ∅ 0 : sProp 𝕄)) (Ψ := fun k => (at_ c (.snd k) : sProp 𝕄)) fun k hk => by unfold at_; rw [(first_zero k hk).1],
      bigSep_congr (s := first) (Φ := fun k => (atPos ER (cell c (.rcv k)) 0 ∅ 0 : sProp 𝕄)) (Ψ := fun k => (at_ c (.rcv k) : sProp 𝕄)) fun k hk => by unfold at_; rw [(first_zero k hk).2]]
    rfl
  unfold held dealt given go due
  rw [eP, sep_tr fun k => (tx c k : sProp 𝕄), bigSep_sep', bigSep_sep']
  iintro ⟨⟨⟨PB, ⟨P0, P1, P2, P3⟩, PS, PR⟩, TB, TC, T3, L3, TF⟩, Hcr⟩
  ihave Hcr := (creds (F := F) c) $$ Hcr
  rw [sep_tr fun k => (crT c (.rcv k) : sProp 𝕄)]
  icases Hcr with ⟨CB, C0, C1, C2, C3, CR, CL, CF⟩
  iframe

/-! ## The side conditions -/

def start (c : Dev nD) : sProp 𝕄 := iprop((∃ K, ctx (xIn m ρ) K) ∗ given c)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp 𝕄) := by
  unfold G' start
  iintro ⟨-, Hl, Hcr, -, ⟨%K, HK⟩, Hh⟩
  imodintro
  isplitl
  · isplitl [Hl HK]
    · iexists K; unfold ctx
      isplitl [HK] <;> iassumption
    iapply (given_of (F := F) c)
    isplitl [Hh] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  show _ ⊢ Φ₀ m ρ c
  rw [show (Pipeline.scopedRest cfg0.spec c : sProp 𝕄) = bufs c from scopedRest0_eq c]
  unfold Φ₀ start
  iintro ⟨⟨HK, Hg⟩, -, Hb⟩
  isplitl [HK]; · iexact HK
  isplitl [Hg] <;> iassumption

theorem phi1_exit (c : Dev nD) :
    (dats m ρ 0 c).Φ (Fin.last cfg0.N) ⊢ iprop(unscopedSems0 c ∗ Pipeline.ownSems0 osem c ∗ Pipeline.scopedRest cfg0.spec c) := by
  show Φ₁ c ⊢ _
  rw [show (Pipeline.scopedRest cfg0.spec c : sProp 𝕄) = bufs c from scopedRest0_eq c]
  unfold Φ₁
  iintro ⟨Hb, Hu, Ho⟩
  isplitl [Hu]; · iexact Hu
  isplitl [Ho] <;> iassumption

/-- The staging semaphores lie below all that a device owes. -/
theorem stage_low (w : Fin cfg0.W) (s : Fin (cfg0.win w).nbuf) (c : Dev nD) : lv ((c : Thread nD τ), .dma ((cfg0.win w).sem s)) 0 = 0 := by
  unfold lv
  rw [show slotOf (.dma ((cfg0.win w).sem s)) 0 = none from by revert w s; decide +kernel]

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_of c _ 0 (by decide) 0 (stage_low w s c) pays (by decide)
    · exact mayWait_of c _ 0 (by decide) 0 (stage_low w s c) [] (by decide)

/-! ## The run -/

def finalA (c : Dev nD) (w : Fin cfg0.W) : Buf (Elt F) ((cfg0.win w).arr.view.loc (c : Thread nD τ)) := (dats m ρ 0 c).arrAt w cfg0.N

/-- The final contents of each device's arrays. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory: every fair run of the eight devices' programs ends, with each device's arrays
    at the computed contents and every semaphore's counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Sched

end
-- ==== Proof.Value.lean ====
/- What the output block holds over the ideal values: at every element the product of a row of the gathered operand and a column
   of the device's weights, times its logistic. -/
module

public import proofs.«01_k».proof.Proof.Run
public import Idealize.ShloMosaic.Lib.MatmulPlain
public import Idealize.ShloMosaic.Lib.Pipeline.Value
public import Idealize.ShloMosaic.Lib.Pointwise.ElementwiseCore

@[expose] public section

noncomputable section

namespace Cert.KernelIdeal.Sched

open Cert.KernelIdeal Cert.KernelIdeal.Gen Cert.KernelIdeal.Mesh Cert.KernelIdeal.Views
open Idealize.ShloMosaic
open Idealize.ShloMosaic.TcCoe
open Idealize.ShloMosaic.ValueIdx (ix2)

/-- A number times its logistic. -/
def silu (y : EReal) : EReal := y * Ideal.logistic y

/-- A piece from the rows it is of: their product with the weights, times its logistic. -/
def act (n : ℕ) (x : FVec Ideal ⟨2, ![n, 4096]⟩ .f32) (w : FVec Ideal S4096x256 .f32) : FVec Ideal ⟨2, ![n, 256]⟩ .f32 :=
  mulf (matmul (DotDims.plain n 4096 256) none x w (constant ⟨2, ![n, 256]⟩ .f32 0x00000000#32))
    (logistic (matmul (DotDims.plain n 4096 256) none x w (constant ⟨2, ![n, 256]⟩ .f32 0x00000000#32)))

/-- An element of a piece. -/
theorem act_apply {n : ℕ} (x : FVec Ideal ⟨2, ![n, 4096]⟩ .f32) (w : FVec Ideal S4096x256 .f32) (a : Fin n) (b : Fin 256) :
    act n x w (ix2 a b) = silu (∑ k : Fin 4096, x (ix2 a k) * w (ix2 k b)) := by
  have h := Ideal.matmul_plain_apply none x w (constant ⟨2, ![n, 256]⟩ .f32 0x00000000#32) a b
  rw [show (constant (F := Ideal) ⟨2, ![n, 256]⟩ .f32 0x00000000#32) (ix2 a b) = (0 : EReal) from Ideal.ofBits_zero_f32, zero_add] at h
  unfold act silu
  rw [mulf_apply, logistic_apply]
  simp only [matmul]
  rw [h]
  rfl

/-- The kernel's text for a piece, whose weights pass through a cast that changes nothing. -/
theorem act_of {n : ℕ} {d : DotDims ⟨2, ![n, 4096]⟩ S4096x256 ⟨2, ![n, 256]⟩} (hd : d = DotDims.plain n 4096 256)
    (x : FVec Ideal ⟨2, ![n, 4096]⟩ .f32) (w : FVec Ideal S4096x256 .f32) (h : S4096x256.ShapeCasts S4096x256) :
    mulf (matmul d none x (shapeCast S4096x256 w h) (constant ⟨2, ![n, 256]⟩ .f32 0x00000000#32))
      (logistic (matmul d none x (shapeCast S4096x256 w h) (constant ⟨2, ![n, 256]⟩ .f32 0x00000000#32))) = act n x w := by
  subst hd
  rw [shapeCast_self]
  rfl

/-- The kernel's products are plain ones, at each number of rows. -/
theorem dims512 : dot_S512x4096_S4096x256_S512x256_1_0_0_1_n_n = DotDims.plain 512 4096 256 := rfl
theorem dims256 : dot_S256x4096_S4096x256_S256x256_1_0_0_1_n_n = DotDims.plain 256 4096 256 := rfl
theorem dims168 : dot_S168x4096_S4096x256_S168x256_1_0_0_1_n_n = DotDims.plain 168 4096 256 := rfl
theorem dims88 : dot_S88x4096_S4096x256_S88x256_1_0_0_1_n_n = DotDims.plain 88 4096 256 := rfl

variable (X : Dev nD → S512x4096.Idx → Elt Ideal .f32) (Wt : Dev nD → S4096x256.Idx → Elt Ideal .f32)

/-- A slot's rows without its leading axis. -/
theorem cast_c1 (d : Dev nD) (o : ℕ) (h : S1x256x4096.ShapeCasts S256x4096) : shapeCast S256x4096 (c1 X d o) h = c2 (n := 256) X d o := by
  funext i
  refine (shapeCast_dropUnit_apply ![256, 4096] (c1 X d o) h i).trans ?_
  rfl

/-- A piece made of a slot's rows. -/
theorem act_slot (d : Dev nD) (o : ℕ) (w : FVec Ideal S4096x256 .f32) (h : S1x256x4096.ShapeCasts S256x4096) :
    act 256 (shapeCast S256x4096 (c1 X d o) h) w = act 256 (c2 (n := 256) X d o) w := by rw [cast_c1]

/-- Every piece is made the same way, of the rows it is of. -/
theorem pv_act (c : Dev nD) : ∀ j : Fin 16, pv X Wt c j = act (pn j) (c2 (n := pn j) X (pd j c) (po j)) (Wt c)
  | ⟨0, _⟩ => (act_of dims512 _ _ _).trans (congrArg (fun x => act 512 x (Wt c)) (shapeCast_self (c2 X c 0) _))
  | ⟨1, _⟩ => act_of dims512 _ _ _
  | ⟨2, _⟩ | ⟨3, _⟩ | ⟨4, _⟩ | ⟨5, _⟩ | ⟨10, _⟩ | ⟨11, _⟩ => (act_of dims256 _ _ _).trans (act_slot X _ _ _ _)
  | ⟨6, _⟩ | ⟨7, _⟩ | ⟨8, _⟩ | ⟨9, _⟩ => act_of dims256 _ _ _
  | ⟨12, _⟩ | ⟨13, _⟩ => act_of dims88 _ _ _
  | ⟨14, _⟩ | ⟨15, _⟩ => act_of dims168 _ _ _
  | ⟨n + 16, h⟩ => absurd h (by omega)

/-- The output at an element, from the device's weights and all the devices' rows. -/
def outE (c : Dev nD) : S4096x256.Idx → Elt Ideal .f32 := fun y =>
  silu (∑ k : Fin 4096, xa X ⟨(y 0).val / 512, Nat.div_lt_of_lt_mul (y 0).isLt⟩ ((y 0).val % 512) k.val * Wt c (ix2 k (y 1)))

/-- A piece stays in its block; -/
theorem fits : ∀ j : Fin 16, po j + pn j ≤ 512 := by decide

/-- so at each of its elements that is what it holds. -/
theorem has_outE (c : Dev nD) (j : Fin 16) : Has X Wt c (outE X Wt c) j := by
  intro i y h0 h1
  have hi : (i 0).val < pn j := (i 0).isLt
  have hp : po j + pn j ≤ 512 := fits j
  unfold poff at h0
  have hq : (y 0).val / 512 = (pd j c).val := by omega
  have hr : (y 0).val % 512 = po j + (i 0).val := by omega
  have ei : i = ix2 (i 0) (i 1) := by
    funext a
    match a with
    | ⟨0, _⟩ => rfl
    | ⟨1, _⟩ => rfl
  rw [pv_act]
  refine Eq.trans ?_ (((congrArg (act (pn j) (c2 (n := pn j) X (pd j c) (po j)) (Wt c)) ei).trans (act_apply _ _ (i 0) (i 1))).symm)
  unfold outE
  refine congrArg silu (Finset.sum_congr rfl fun k _ => ?_)
  congr 1
  · show xa X _ _ _ = xa X _ _ _
    rw [hr]
    congr 1
    exact Fin.ext hq
  · exact congrArg (fun b => Wt c (ix2 k b)) (Fin.ext h1)

/-- So that is what the output block ends with. -/
theorem outAt_eq (c : Dev nD) : outAt X Wt c = outE X Wt c := (out_of_has X Wt (has_outE X Wt c)).symm

/-! ## The arrays -/

variable {F : FTy → Type} [FloatOps F] (m : (ℓ : Loc nD τ sig) → Buf (Elt F) ℓ) (ρ : Dev nD → PrngReg)

/-- Each window is its array whole. -/
theorem xIn_eq (c : Dev nD) : xIn m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

theorem wIn_eq (c : Dev nD) : wIn m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- The result's array ends as the output block. -/
theorem final_out (c : Dev nD) : finalA m ρ c (2 : Fin 3) = outAt (xIn m ρ) (wIn m ρ) c := by
  have h : (win0_2.blk (0 : Fin 1)).view.read (Elt F) (finalA m ρ c (2 : Fin 3)) = outAt (xIn m ρ) (wIn m ρ) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (off := fun a => (win0_2.index (0 : Fin 1)) a * main_v1.ty.shape.size a)
    (funext fun a => by fin_cases a <;> decide) (fun a => by fin_cases a <;> decide) _).symm.trans h

end Cert.KernelIdeal.Sched

end
-- ==== Proof.Reference.lean ====
/- What the reference computes over the ideal values, and that each device's block of it is what the kernel leaves there. -/
module

public import proofs.«01_k».proof.Proof.Value
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.Reference

open Cert.ReferenceIdeal Cert.ReferenceIdeal.Gen
open Idealize.ShloMosaic
open Idealize.ShloMosaic.ValueIdx (ix2)
open Cert.KernelIdeal.Sched (silu outE)
open Cert.KernelIdeal.Views (xa)

/-- The exponential is never negative, -/
theorem exp_nonneg (x : EReal) : 0 ≤ Ideal.exp x := by
  induction x with
  | bot => exact le_refl _
  | top => exact le_top
  | coe r => rw [Ideal.exp_coe]; exact EReal.coe_nonneg.mpr (Real.exp_pos r).le

/-- so one plus it is not zero, and a quotient by it is a product with its inverse: a number times its logistic is the number divided by one
    plus the exponential of its negative. -/
theorem silu_eq (y : EReal) : silu y = Ideal.div y (1 + Ideal.exp (-y)) := by
  have h : (1 + Ideal.exp (-y)) ≠ 0 := (lt_of_lt_of_le zero_lt_one (le_add_of_nonneg_right (exp_nonneg _))).ne'
  unfold silu Ideal.logistic Ideal.div
  rw [if_neg h, if_neg h, one_mul]

/-- The reference's product. -/
abbrev prodR (A : FVec Ideal S4096x4096 .f32) (B : FVec Ideal S4096x2048 .f32) : FVec Ideal S4096x2048 .f32 :=
  Host.dotGeneral dot_S4096x4096_S4096x2048_S4096x2048_1_0_0_1_n_n none A B

/-- The reference's result. -/
abbrev result (A : FVec Ideal S4096x4096 .f32) (B : FVec Ideal S4096x2048 .f32) : FVec Ideal S4096x2048 .f32 :=
  Host.divf (prodR A B) (addf (broadcastInDim S4096x2048 ![] bcast_S_S4096x2048 (constant S_ .f32 0x3F800000#32)) (Host.exp (Host.negf (prodR A B))))

/-- It is a plain product. -/
theorem dimsR : dot_S4096x4096_S4096x2048_S4096x2048_1_0_0_1_n_n = DotDims.plain 4096 4096 2048 := rfl

/-- The reference at an element. -/
theorem result_apply (A : FVec Ideal S4096x4096 .f32) (B : FVec Ideal S4096x2048 .f32) (a : Fin 4096) (b : Fin 2048) :
    result A B (ix2 a b) = silu (∑ k : Fin 4096, A (ix2 a k) * B (ix2 k b)) := by
  have h : prodR A B (ix2 a b) = ∑ k : Fin 4096, A (ix2 a k) * B (ix2 k b) := by
    unfold prodR
    rw [dimsR]
    exact StackMember.dotGeneral_plain_apply none A B a b
  rw [silu_eq, ← h, ← Ideal.ofBits_one_f32]
  rfl

/-- With the first operand's rows and the second's columns dealt out to the devices, what the kernel leaves on device `c` is block `c`
    of the reference's columns. -/
theorem block_eq (A : FVec Ideal S4096x4096 .f32) (B : FVec Ideal S4096x2048 .f32) (c : Dev Cert.KernelIdeal.nD)
    (X : Dev Cert.KernelIdeal.nD → Cert.KernelIdeal.S512x4096.Idx → Elt Ideal .f32) (W : Dev Cert.KernelIdeal.nD → Cert.KernelIdeal.S4096x256.Idx → Elt Ideal .f32)
    (hX : ∀ d, X d = Layout.block ⟨2, ![512, 4096]⟩ ⟨2, ![4096, 4096]⟩ 0 8 d A)
    (hW : W c = Layout.block ⟨2, ![4096, 256]⟩ ⟨2, ![4096, 2048]⟩ 1 8 c B) :
    outE X W c = Layout.block ⟨2, ![4096, 256]⟩ ⟨2, ![4096, 2048]⟩ 1 8 c (result A B) := by
  funext y
  rw [Layout.block_apply]
  have hy0 : (y 0).val < 4096 := (y 0).isLt
  have hy1 : (y 1).val < 256 := (y 1).isLt
  have hc : c.val < 8 := c.isLt
  have e : ∀ h : Layout.Tiles ⟨2, ![4096, 256]⟩ ⟨2, ![4096, 2048]⟩ 1 8, h.idx c y = ix2 (⟨(y 0).val, hy0⟩ : Fin 4096) (⟨c.val * 256 + (y 1).val, by omega⟩ : Fin 2048) := by
    intro h
    funext a
    match a with
    | ⟨0, _⟩ => rfl
    | ⟨1, _⟩ => rfl
  rw [e, result_apply]
  unfold outE
  refine congrArg silu (Finset.sum_congr rfl fun k _ => ?_)
  have hk : k.val < 4096 := k.isLt
  congr 1
  · unfold xa
    rw [hX, Layout.block_apply]
    congr 1
    funext a
    apply Fin.ext
    match a with
    | ⟨0, _⟩ => show (y 0).val / 512 * 512 + (y 0).val % 512 % 512 = (y 0).val; omega
    | ⟨1, _⟩ => show k.val % 4096 = k.val; omega
  · rw [hW, Layout.block_apply]
    congr 1
    funext a
    apply Fin.ext
    match a with
    | ⟨0, _⟩ => rfl
    | ⟨1, _⟩ => rfl

end Cert.Reference

end
-- ==== Proof.Clipped.lean ====
/- The reference with the exponential's argument clipped to [-60, 60], at the elements where the product lies in that range: there the clip
   changes nothing, and the result is the reference's. -/
module

public import proofs.«01_k».proof.Defs
public import proofs.«01_k».proof.Proof.Reference
public import proofs.«01_k».proof.Proof.Gen.ClippedIdeal
public import proofs.«01_k».proof.Proof.Gen.On_within

@[expose] public section

noncomputable section

namespace Cert.Clipped

open Cert.ClippedIdeal Cert.ClippedIdeal.Gen
open Idealize.ShloMosaic

/-- The product. -/
abbrev prodC (A : FVec Ideal S4096x4096 .f32) (B : FVec Ideal S4096x2048 .f32) : FVec Ideal S4096x2048 .f32 :=
  Host.dotGeneral dot_S4096x4096_S4096x2048_S4096x2048_1_0_0_1_n_n none A B

/-- The result, with the clip. -/
abbrev result (A : FVec Ideal S4096x4096 .f32) (B : FVec Ideal S4096x2048 .f32) : FVec Ideal S4096x2048 .f32 :=
  Host.divf (prodC A B) (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) (prodC A B))))))

/-- Two comparisons that both hold: the number lies between the bounds. -/
theorem between {l u y : EReal} (h : Ideal.cmp .oge y l &&& Ideal.cmp .ole y u = 1#1) : l ≤ y ∧ y ≤ u := by
  unfold Ideal.cmp at h
  by_cases h1 : l ≤ y <;> by_cases h2 : y ≤ u <;> simp_all

/-- The clip of a number between the bounds is the number. -/
theorem clip_eq {l u y : EReal} (h : l ≤ y ∧ y ≤ u) : min u (max l y) = y := by
  rw [max_eq_right h.1, min_eq_right h.2]

/-- Where the mask is set the two references agree. -/
theorem result_eq (A : FVec Ideal S4096x4096 .f32) (B : FVec Ideal S4096x2048 .f32) (i : S4096x2048.Idx)
    (h : Cert.On_within.fn (F := Ideal) A B i = 1#1) : Cert.Reference.result A B i = result A B i := by
  have e := clip_eq (l := Ideal.ofBits .f32 0xC2700000#32) (u := Ideal.ofBits .f32 0x42700000#32) (y := prodC A B i) (between h)
  show Ideal.div (prodC A B i) (Ideal.ofBits .f32 0x3F800000#32 + Ideal.exp (-(prodC A B i)))
    = Ideal.div (prodC A B i) (Ideal.ofBits .f32 0x3F800000#32
        + Ideal.exp (-(min (Ideal.ofBits .f32 0x42700000#32) (max (Ideal.ofBits .f32 0xC2700000#32) (prodC A B i)))))
  rw [e]

end Cert.Clipped

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within
public import proofs.«01_k».proof.Proof.Reference
public import proofs.«01_k».proof.Proof.Clipped
public import Idealize.ShloMosaic.Adequacy
public import Idealize.ShloMosaic.Init

@[expose] public section

noncomputable section

namespace Cert.Proof

open Idealize.ShloMosaic Idealize.ShloMosaic.TcCoe Idealize.SL.Sem

section Arrays

open Cert.KernelIdeal Cert.KernelIdeal.Gen Cert.KernelIdeal.Sched

variable {F : FTy → Type} [FloatOps F] (m : (ℓ : Loc nD τ sig) → Buf (Elt F) ℓ) (ρ : Dev nD → PrngReg)

/-- The region only reads the first operand's array, -/
theorem kept0 (c : Dev nD) : finalA m ρ c (0 : Fin 3) = m ((c : Thread nD τ).loc main_arg0) := (dats (F := F) m ρ 0 c).arrAt_in (0 : Fin 3) rfl _
/-- and the second's. -/
theorem kept1 (c : Dev nD) : finalA m ρ c (1 : Fin 3) = m ((c : Thread nD τ).loc main_arg1) := (dats (F := F) m ρ 0 c).arrAt_in (1 : Fin 3) rfl _

end Arrays

set_option smartUnfolding false in
/-- The kernel over bits: every fair run ends, both operands keep their contents, every counter ends at zero. -/
theorem frame_kernel : Cert.quiescent_Kernel := fun m ρ _ =>
  (θ_run Cert.KernelIdeal.defs _ _).mono
    (fun _ h => ⟨fun c => ⟨(h.1 c (0 : Fin 3)).trans (kept0 m ρ c), (h.1 c (1 : Fin 3)).trans (kept1 m ρ c)⟩, h.2⟩)
    (Cert.KernelIdeal.Sched.run_main (F := Bits) m ρ)

/-- The same over the ideal values. -/
theorem frame_ideal : Cert.quiescent_KernelIdeal := fun m ρ _ =>
  (θ_run Cert.KernelIdeal.defs _ _).mono
    (fun _ h => ⟨fun c => ⟨(h.1 c (0 : Fin 3)).trans (kept0 m ρ c), (h.1 c (1 : Fin 3)).trans (kept1 m ρ c)⟩, h.2⟩)
    (Cert.KernelIdeal.Sched.run_main (F := Ideal) m ρ)

/-- The reference ends with its operands as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the ideal values device `c`'s result is block `c`, by columns, of the reference's. -/
theorem algebraic : Cert.algebraic_KernelIdeal_ReferenceIdeal := by
  intro m ρ m' ρ' _ hagree
  refine ⟨Cert.Reference.result (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨((h.1 c (2 : Fin 3)).trans (Cert.KernelIdeal.Sched.final_out m ρ c)).trans ?_,
        (h.1 c (0 : Fin 3)).trans (kept0 m ρ c), (h.1 c (1 : Fin 3)).trans (kept1 m ρ c)⟩)
      (Cert.KernelIdeal.Sched.run_main (F := Ideal) m ρ)
    rw [Cert.KernelIdeal.Sched.outAt_eq]
    exact Cert.Reference.block_eq _ _ c _ _ (fun d => (Cert.KernelIdeal.Sched.xIn_eq m ρ d).trans (hagree d).1)
      ((Cert.KernelIdeal.Sched.wIn_eq m ρ c).trans (hagree c).2)
  · exact (θ_run Cert.ReferenceIdeal.defs _ _).mono (fun _ h => h 0) (Cert.ReferenceIdeal.Value.run (F := Ideal) m' ρ')

/-- The clipped reference ends with its operands as they were; it has no semaphore. -/
theorem frame_clipped : Cert.quiescent_ClippedIdeal := fun m ρ _ =>
  (θ_run Cert.ClippedIdeal.defs _ _).mono
    (fun r h => ⟨fun c => (h c).2, sem_eq_zero_of_no_sems (by decide) r.2⟩)
    (Cert.ClippedIdeal.Value.run (F := Ideal) m ρ)

/-- Over the ideal values device `c`'s result is block `c`, by columns, of the clipped reference's, at the elements whose product lies in the
    clip's range. -/
theorem algebraic_clipped : Cert.algebraic_KernelIdeal_ClippedIdeal_on_within := by
  intro m ρ m' ρ' _ hagree
  refine ⟨Cert.Clipped.result (m' (((0 : Dev Cert.ClippedIdeal.nD).tc : Thread _ Cert.ClippedIdeal.τ).loc Cert.ClippedIdeal.main_arg0))
    (m' (((0 : Dev Cert.ClippedIdeal.nD).tc : Thread _ Cert.ClippedIdeal.τ).loc Cert.ClippedIdeal.main_arg1)), ?_, ?_⟩
  · refine (θ_run Cert.KernelIdeal.defs _ _).mono
      (fun _ h c => ⟨fun i hi => (congrFun ((h.1 c (2 : Fin 3)).trans (Cert.KernelIdeal.Sched.final_out m ρ c)) i).trans ?_,
        (h.1 c (0 : Fin 3)).trans (kept0 m ρ c), (h.1 c (1 : Fin 3)).trans (kept1 m ρ c)⟩)
      (Cert.KernelIdeal.Sched.run_main (F := Ideal) m ρ)
    rw [Cert.KernelIdeal.Sched.outAt_eq]
    exact (congrFun (Cert.Reference.block_eq _ _ c _ _ (fun d => (Cert.KernelIdeal.Sched.xIn_eq m ρ d).trans (hagree d).1)
      ((Cert.KernelIdeal.Sched.wIn_eq m ρ c).trans (hagree c).2)) i).trans (Cert.Clipped.result_eq _ _ _ hi)
  · exact (θ_run Cert.ClippedIdeal.defs _ _).mono (fun _ h => ⟨fun i _ => congrFun (h 0).1 i, (h 0).2⟩)
      (Cert.ClippedIdeal.Value.run (F := Ideal) m' ρ')

theorem claim : Cert.Claim := ⟨Cert.Kernel.Gen.facts, Cert.KernelIdeal.Gen.facts, Cert.ReferenceIdeal.Gen.facts, Cert.ClippedIdeal.Gen.facts,
  Cert.On_within.Gen.facts, frame_kernel, frame_ideal, frame_reference, frame_clipped, trivial, algebraic, algebraic_clipped⟩

end Cert.Proof

end
